-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nearest_distinct [hPre_nearest_distinct : Cert.Pre_nearest_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_nearest_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nearest_distinct [hPre_nearest_distinct : Cert.Pre_nearest_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nearest_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_nearest_distinct [hKernelIdeal : Cert.KernelIdeal.Facts] [hPre_nearest_distinct : Cert.Pre_nearest_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nearest_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_nearest_distinct [hReferenceIdeal : Cert.ReferenceIdeal.Facts] [hPre_nearest_distinct : Cert.Pre_nearest_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nearest_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_nearest_distinct [hKernelIdeal : Cert.KernelIdeal.Facts] [hReferenceIdeal : Cert.ReferenceIdeal.Facts] [hPre_nearest_distinct : Cert.Pre_nearest_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nearest_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_nearest_distinct : Cert.Pre_nearest_distinct.Facts),
    quiescent_Kernel (hKernel := hKernel)
    ∧ quiescent_KernelIdeal (hKernelIdeal := hKernelIdeal)
    ∧ quiescent_KernelIdeal_pre_nearest_distinct (hKernelIdeal := hKernelIdeal) (hPre_nearest_distinct := hPre_nearest_distinct)
    ∧ quiescent_ReferenceIdeal (hReferenceIdeal := hReferenceIdeal)
    ∧ quiescent_ReferenceIdeal_pre_nearest_distinct (hReferenceIdeal := hReferenceIdeal) (hPre_nearest_distinct := hPre_nearest_distinct)
    ∧ preserves_Kernel_KernelIdeal
    ∧ algebraic_KernelIdeal_ReferenceIdeal_pre_nearest_distinct (hKernelIdeal := hKernelIdeal) (hReferenceIdeal := hReferenceIdeal) (hPre_nearest_distinct := hPre_nearest_distinct)
-- ==== Pre_nearest_distinct.lean ====
abbrev S4096x128 : Shape := ⟨2, ![4096, 128]⟩
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S64x4096 : Shape := ⟨2, ![64, 4096]⟩
abbrev S4096x4096 : Shape := ⟨2, ![4096, 4096]⟩
abbrev S4096x10 : Shape := ⟨2, ![4096, 10]⟩
abbrev S4096x9 : Shape := ⟨2, ![4096, 9]⟩

class Facts : Prop where
  reducesTo_S4096x64_S4096_d1 : S4096x64.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x64_0_1 : S4096x1.BroadcastsInDim S4096x64 (![0, 1] : Fin 2 → Fin S4096x64.rank)
  transposes_S4096x64_S64x4096_1_0 : S4096x64.Transposes [1, 0] S64x4096
  sliceFits_S4096x4096_S4096x10 : S4096x4096.Slices (fun _ => 0) S4096x10
  slices_S4096x10_S4096x9_0_0 : S4096x10.Slices ![0, 0] S4096x9
  slices_S4096x10_S4096x9_0_1 : S4096x10.Slices ![0, 1] S4096x9
  bcast_S4096x1_S4096x9_0_1 : S4096x1.BroadcastsInDim S4096x9 (![0, 1] : Fin 2 → Fin S4096x9.rank)
  dot_S4096x64_S64x4096_S4096x4096_1_0_0_1_n_n_wf : DotDims.WF S4096x64 S64x4096 S4096x4096 [1] [0] [0] [1] [] []

variable [Facts]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def fn_norm {F : FTy → Type} [FloatOps F] (arg0 : FVec F S4096x64 .f32) : FVec F S4096x1 .f32 :=
  let v0 : FVec F S4096x64 .f32 := mulf arg0 arg0
  let cst : FVec F S_ .f32 := constant S_ .f32 0x00000000#32
  let v1 : FVec F S4096 .f32 := (fun x v => Host.reduceAdd x v reducesTo_S4096x64_S4096_d1 h_S_) v0 cst
  let v2 : FVec F S4096x1 .f32 := broadcastInDim S4096x1 ![0] bcast_S4096_S4096x1_0 v1
  let v3 : FVec F S4096x1 .f32 := Host.sqrt v2
  v3

def fn {F : FTy → Type} [FloatOps F] (main_arg0 : FVec F S4096x128 .f32) (main_arg1 : FVec F S4096x64 .f32) : IVec S4096x9 1 :=
  let main_v0 : FVec F S4096x1 .f32 := fn_norm (F := F) main_arg1
  let main_cst : FVec F S_ .f32 := constant S_ .f32 0x2B8CBCCC#32
  let main_v1 : FVec F S4096x1 .f32 := broadcastInDim S4096x1 ![] bcast_S_S4096x1 main_cst
  let main_v2 : FVec F S4096x1 .f32 := maximumf main_v0 main_v1
  let main_v3 : FVec F S4096x64 .f32 := broadcastInDim S4096x64 ![0, 1] bcast_S4096x1_S4096x64_0_1 main_v2
  let main_v4 : FVec F S4096x64 .f32 := Host.divf main_arg1 main_v3
  let main_v5 : FVec F S64x4096 .f32 := (transpose S64x4096 [1, 0] · transposes_S4096x64_S64x4096_1_0) main_v4
  let main_v6 : FVec F S4096x4096 .f32 := (fun l r => Host.dotGeneral dot_S4096x64_S64x4096_S4096x4096_1_0_0_1_n_n none l r) main_v4 main_v5
  let main_values : FVec F S4096x10 .f32 := (fun x => (Host.topK S4096x10 1 (FloatOps.cmpfTotal .gt) x sliceFits_S4096x4096_S4096x10).1) main_v6
  let main_indices : IVec S4096x10 32 := (fun x => (Host.topK S4096x10 1 (FloatOps.cmpfTotal .gt) x sliceFits_S4096x4096_S4096x10).2) main_v6
  let main_cst_0 : FVec F S_ .f32 := constant S_ .f32 0x2B8CBCCC#32
  let main_v7 : FVec F S4096x1 .f32 := broadcastInDim S4096x1 ![] bcast_S_S4096x1 main_cst_0
  let main_v8 : IVec S4096x1 1 := cmpf .oge main_v0 main_v7
  let main_v9 : FVec F S4096x9 .f32 := (extractStridedSlice S4096x9 ![0, 0] · slices_S4096x10_S4096x9_0_0) main_values
  let main_v10 : FVec F S4096x9 .f32 := (extractStridedSlice S4096x9 ![0, 1] · slices_S4096x10_S4096x9_0_1) main_values
  let main_v11 : IVec S4096x9 1 := cmpf .ogt main_v9 main_v10
  let main_v12 : IVec S4096x9 1 := broadcastInDim S4096x9 ![0, 1] bcast_S4096x1_S4096x9_0_1 main_v8
  let main_v13 : IVec S4096x9 1 := andi main_v12 main_v11
  main_v13
-- ==== Kernel.lean ====
abbrev S4096x128 : Shape := ⟨2, ![4096, 128]⟩
abbrev S4096x64 : Shape := ⟨2, ![4096, 64]⟩
abbrev S4096 : Shape := ⟨1, ![4096]⟩
abbrev S4096x1 : Shape := ⟨2, ![4096, 1]⟩
abbrev S1x1 : Shape := ⟨2, ![1, 1]⟩
abbrev S1024x128 : Shape := ⟨2, ![1024, 128]⟩
abbrev S1024x64 : Shape := ⟨2, ![1024, 64]⟩
abbrev S1024x4096 : Shape := ⟨2, ![1024, 4096]⟩
abbrev S1024 : Shape := ⟨1, ![1024]⟩
abbrev S1024x1 : Shape := ⟨2, ![1024, 1]⟩
abbrev S1 : Shape := ⟨1, ![1]⟩
abbrev S_ : Shape := ⟨0, ![]⟩

abbrev nBuf : Space → Nat
  | .hbm => 7
  | .vmem => 12
  | .smem => 0
  | _ => 0

abbrev bufTy : (tb : Table) → Fin (tcTables nBuf tb) → BufTy
  | .hbm, ⟨0, _⟩ => ⟨S4096x128, .f32⟩
  | .hbm, ⟨1, _⟩ => ⟨S4096x64, .f32⟩
  | .hbm, ⟨2, _⟩ => ⟨S4096x128, .f32⟩
  | .hbm, ⟨3, _⟩ => ⟨S4096x128, .f32⟩
  | .hbm, ⟨4, _⟩ => ⟨S4096x64, .bf16⟩
  | .hbm, ⟨5, _⟩ => ⟨S1x1, .f32⟩
  | .hbm, ⟨6, _⟩ => ⟨S_, .f32⟩
  | .local _ .vmem, ⟨0, _⟩ => ⟨S4096x128, .f32⟩
  | .local _ .vmem, ⟨1, _⟩ => ⟨S4096x64, .f32⟩
  | .local _ .vmem, ⟨2, _⟩ => ⟨S4096x128, .f32⟩
  | .local _ .vmem, ⟨3, _⟩ => ⟨S4096x128, .f32⟩
  | .local _ .vmem, ⟨4, _⟩ => ⟨S4096x64, .bf16⟩
  | .local _ .vmem, ⟨5, _⟩ => ⟨S1024x128, .f32⟩
  | .local _ .vmem, ⟨6, _⟩ => ⟨S1024x128, .f32⟩
  | .local _ .vmem, ⟨7, _⟩ => ⟨S4096x128, .f32⟩
  | .local _ .vmem, ⟨8, _⟩ => ⟨S1024x64, .bf16⟩
  | .local _ .vmem, ⟨9, _⟩ => ⟨S1024x64, .bf16⟩
  | .local _ .vmem, ⟨10, _⟩ => ⟨S4096x64, .bf16⟩
  | .local _ .vmem, ⟨11, _⟩ => ⟨S1x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11

abbrev nD : Nat := 1
abbrev τ : Topo := Topo.v7x

variable {F : FTy → Type} [FloatOps F]

abbrev grid0 : Pipeline.Grid := .none

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4096x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]
-- ==== ReferenceIdeal.lean ====
abbrev S4096x128 : Shape := ⟨2, ![4096, 128]⟩
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S128x4096 : Shape := ⟨2, ![128, 4096]⟩
abbrev S4096x4096 : Shape := ⟨2, ![4096, 4096]⟩
abbrev S64x4096 : Shape := ⟨2, ![64, 4096]⟩
abbrev S4096x8 : Shape := ⟨2, ![4096, 8]⟩
abbrev S4096x8x1 : Shape := ⟨3, ![4096, 8, 1]⟩
abbrev S4096x8x2 : Shape := ⟨3, ![4096, 8, 2]⟩

abbrev nBuf : Space → Nat
  | .hbm => 118
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x64, .f32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x128, .f32⟩
  | .hbm, ⟨11, _⟩ => ⟨S4096x128, .f32⟩
  | .hbm, ⟨12, _⟩ => ⟨S4096x64, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x64, .f32⟩
  | .hbm, ⟨21, _⟩ => ⟨S4096x64, .f32⟩
  | .hbm, ⟨22, _⟩ => ⟨S128x4096, .f32⟩
  | .hbm, ⟨23, _⟩ => ⟨S4096x4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S64x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x4096, .i32⟩
  | .hbm, ⟨38, _⟩ => ⟨S4096x4096, .i32⟩
  | .hbm, ⟨39, _⟩ => ⟨S_, .i32⟩
  | .hbm, ⟨40, _⟩ => ⟨S4096x4096, .i32⟩
  | .hbm, ⟨41, _⟩ => ⟨S4096x4096, .i32⟩
  | .hbm, ⟨42, _⟩ => ⟨S4096x4096, .i1⟩
  | .hbm, ⟨43, _⟩ => ⟨S_, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S4096x8, .f32⟩
  | .hbm, ⟨52, _⟩ => ⟨S4096x8, .i32⟩
  | .hbm, ⟨53, _⟩ => ⟨S4096, .i32⟩
  | .hbm, ⟨54, _⟩ => ⟨S4096x1, .i32⟩
  | .hbm, ⟨55, _⟩ => ⟨S_, .i1⟩
  | .hbm, ⟨56, _⟩ => ⟨S4096x4096, .i1⟩
  | .hbm, ⟨57, _⟩ => ⟨S_, .i32⟩
  | .hbm, ⟨58, _⟩ => ⟨S4096x1, .i32⟩
  | .hbm, ⟨59, _⟩ => ⟨S4096x1, .i1⟩
  | .hbm, ⟨60, _⟩ => ⟨S_, .i32⟩
  | .hbm, ⟨61, _⟩ => ⟨S4096x1, .i32⟩
  | .hbm, ⟨62, _⟩ => ⟨S4096x1, .i32⟩
  | .hbm, ⟨63, _⟩ => ⟨S4096x1, .i32⟩
  | .hbm, ⟨64, _⟩ => ⟨S_, .i32⟩
  | .hbm, ⟨65, _⟩ => ⟨S4096x8, .i32⟩
  | .hbm, ⟨66, _⟩ => ⟨S4096x8, .i1⟩
  | .hbm, ⟨67, _⟩ => ⟨S_, .i32⟩
  | .hbm, ⟨68, _⟩ => ⟨S4096x8, .i32⟩
  | .hbm, ⟨69, _⟩ => ⟨S4096x8, .i32⟩
  | .hbm, ⟨70, _⟩ => ⟨S4096x8, .i32⟩
  | .hbm, ⟨71, _⟩ => ⟨S4096x8, .i32⟩
  | .hbm, ⟨72, _⟩ => ⟨S4096x8x1, .i32⟩
  | .hbm, ⟨73, _⟩ => ⟨S4096x8x1, .i32⟩
  | .hbm, ⟨74, _⟩ => ⟨S4096x8x2, .i32⟩
  | .hbm, ⟨75, _⟩ => ⟨S_, .i1⟩
  | .hbm, ⟨76, _⟩ => ⟨S4096x8, .i1⟩
  | .hbm, ⟨77, _⟩ => ⟨S4096x4096, .i1⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S4096x4096, .f32⟩
  | .hbm, ⟨82, _⟩ => ⟨S4096x4096, .f32⟩
  | .hbm, ⟨83, _⟩ => ⟨S4096x4096, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S4096x1, .f32⟩
  | .hbm, ⟨88, _⟩ => ⟨S4096x1, .f32⟩
  | .hbm, ⟨89, _⟩ => ⟨S4096x4096, .f32⟩
  | .hbm, ⟨90, _⟩ => ⟨S4096x4096, .f32⟩
  | .hbm, ⟨91, _⟩ => ⟨S4096x4096, .f32⟩
  | .hbm, ⟨92, _⟩ => ⟨S_, .f32⟩
  | .hbm, ⟨93, _⟩ => ⟨S4096, .f32⟩
  | .hbm, ⟨94, _⟩ => ⟨S_, .f32⟩
  | .hbm, ⟨95, _⟩ => ⟨S4096, .f32⟩
  | .hbm, ⟨96, _⟩ => ⟨S4096, .i1⟩
  | .hbm, ⟨97, _⟩ => ⟨S4096, .f32⟩
  | .hbm, ⟨98, _⟩ => ⟨S4096x4096, .f32⟩
  | .hbm, ⟨99, _⟩ => ⟨S_, .f32⟩
  | .hbm, ⟨100, _⟩ => ⟨S4096, .f32⟩
  | .hbm, ⟨101, _⟩ => ⟨S4096, .f32⟩
  | .hbm, ⟨102, _⟩ => ⟨S_, .f32⟩
  | .hbm, ⟨103, _⟩ => ⟨S4096, .f32⟩
  | .hbm, ⟨104, _⟩ => ⟨S4096, .f32⟩
  | .hbm, ⟨105, _⟩ => ⟨S4096, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .i1⟩
  | .hbm, ⟨110, _⟩ => ⟨S4096, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_call2_v0 : Ref sig .tc := ⟨.hbm, 44, rfl⟩
abbrev main_call2_v1 : Ref sig .tc := ⟨.hbm, 45, rfl⟩
abbrev main_v26 : Ref sig .tc := ⟨.hbm, 46, rfl⟩
abbrev main_cst_6 : Ref sig .tc := ⟨.hbm, 47, rfl⟩
abbrev main_call3_v0 : Ref sig .tc := ⟨.hbm, 48, rfl⟩
abbrev main_call3_v1 : Ref sig .tc := ⟨.hbm, 49, rfl⟩
abbrev main_v27 : Ref sig .tc := ⟨.hbm, 50, rfl⟩
abbrev main_values : Ref sig .tc := ⟨.hbm, 51, rfl⟩
abbrev main_indices : Ref sig .tc := ⟨.hbm, 52, rfl⟩
abbrev main_v28 : Ref sig .tc := ⟨.hbm, 53, rfl⟩
abbrev main_v29 : Ref sig .tc := ⟨.hbm, 54, rfl⟩
abbrev main_c_7 : Ref sig .tc := ⟨.hbm, 55, rfl⟩
abbrev main_v30 : Ref sig .tc := ⟨.hbm, 56, rfl⟩
abbrev main_c_8 : Ref sig .tc := ⟨.hbm, 57, rfl⟩
abbrev main_v31 : Ref sig .tc := ⟨.hbm, 58, rfl⟩
abbrev main_v32 : Ref sig .tc := ⟨.hbm, 59, rfl⟩
abbrev main_c_9 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_10 : Ref sig .tc := ⟨.hbm, 64, rfl⟩
abbrev main_v36 : Ref sig .tc := ⟨.hbm, 65, rfl⟩
abbrev main_v37 : Ref sig .tc := ⟨.hbm, 66, rfl⟩
abbrev main_c_11 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c_12 : Ref sig .tc := ⟨.hbm, 75, rfl⟩
abbrev main_v45 : Ref sig .tc := ⟨.hbm, 76, rfl⟩
abbrev main_v46 : Ref sig .tc := ⟨.hbm, 77, rfl⟩
abbrev main_cst_13 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_14 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_15 : Ref sig .tc := ⟨.hbm, 92, rfl⟩
abbrev main_v59 : Ref sig .tc := ⟨.hbm, 93, rfl⟩
abbrev main_cst_16 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_17 : Ref sig .tc := ⟨.hbm, 99, rfl⟩
abbrev main_v64 : Ref sig .tc := ⟨.hbm, 100, rfl⟩
abbrev main_v65 : Ref sig .tc := ⟨.hbm, 101, rfl⟩
abbrev main_cst_18 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_19 : Ref sig .tc := ⟨.hbm, 106, rfl⟩
abbrev main_v69 : Ref sig .tc := ⟨.hbm, 107, rfl⟩
abbrev main_cst_20 : Ref sig .tc := ⟨.hbm, 108, rfl⟩
abbrev main_v70 : Ref sig .tc := ⟨.hbm, 109, rfl⟩
abbrev main_v71 : Ref sig .tc := ⟨.hbm, 110, rfl⟩
abbrev main_cst_21 : Ref sig .tc := ⟨.hbm, 111, rfl⟩
abbrev main_v72 : Ref sig .tc := ⟨.hbm, 112, rfl⟩
abbrev main_cst_22 : Ref sig .tc := ⟨.hbm, 113, rfl⟩
abbrev main_v73 : Ref sig .tc := ⟨.hbm, 114, rfl⟩
abbrev main_v74 : Ref sig .tc := ⟨.hbm, 115, rfl⟩
abbrev main_cst_23 : Ref sig .tc := ⟨.hbm, 116, rfl⟩
abbrev main_v75 : Ref sig .tc := ⟨.hbm, 117, rfl⟩

abbrev nD : Nat := 1
abbrev τ : Topo := Topo.v7x

variable {F : FTy → Type} [FloatOps F]
-- ==== Proof.KernelRun.lean ====
/- The idealized kernel's run, with what it leaves in its result. -/
module

public import proofs.«01_k».proof.Proof.Gen.KernelIdeal
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the kernel terminates, its result is what its last host operation leaves at
    the end of the fold `W3`, and its arguments are unchanged. -/
theorem run_result : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c => ⟨h c _ (mem_uc main_v2 (by decide)),
      (h c _ (mem_uc main_arg0 (by decide))).trans (W3_main_arg0 m ρ c),
      (h c _ (mem_uc main_arg1 (by decide))).trans (W3_main_arg1 m ρ c)⟩)

end Cert.KernelIdeal.Gen

end
-- ==== Proof.KernelValue.lean ====
/- What the two calls of the idealized kernel leave in their result arrays, in the terms of the bodies' payloads. -/
module

public import proofs.«01_k».proof.Proof.Gen.KernelIdeal
public import proofs.«01_k».proof.Proof.Gen.KernelIdeal.Frame
public import Idealize.ShloMosaic.Lib.Pipeline.ValueKit
public import Idealize.ShloMosaic.Lib.Claim
public import Idealize.ShloMosaic.Lib.Pointwise

@[expose] public section

set_option maxRecDepth 16384

noncomputable section

namespace Cert.KernelIdeal.RowTiles

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

section
variable (V : (c : Dev nD) → (b : Ref sig .tc) → Buf (Elt Ideal) ((c : Thread nD τ).loc b))

/-- Every window of the first call stages its whole array. -/
theorem index0 : ∀ t : Fin cfg0.N, win0_0.index t = ![0, 0] ∧ win0_1.index t = ![0, 0] :=
  (by decide +kernel : ∀ t : Fin grid0.N, _)

/-- The second call's tiles are at the point's row block; its other windows stage their whole arrays. -/
theorem index1 : ∀ t : Fin cfg1.N, win1_0.index t = ![t.val, 0] ∧ win1_1.index t = ![0, 0] ∧ win1_2.index t = ![t.val, 0] ∧ win1_3.index t = ![0, 0] :=
  (by decide +kernel : ∀ t : Fin grid1.N, _)

/-- The first call reads its first argument whole. -/
theorem iblk0_0 (c : Dev nD) : iblk0 V c 0 t0_0 = V c main_arg0 := by
  blk_ext! [iblk0, index0 t0_0]

/-- The first call reads its second argument whole. -/
theorem iblk0_1 (c : Dev nD) : iblk0 V c 1 t0_0 = V c main_arg1 := by
  blk_ext! [iblk0, index0 t0_0]

/-- The first call's first result. -/
theorem normalized_z (c : Dev nD) : (dat0 V c).arrAt 2 cfg0.N = k0_pay2 (F := Ideal) (V c main_arg0) := by
  refine (dat0 V c).arrAt_eq_of_after_last 2 t0_0 (by decide +kernel) _ fun j => ?_
  blk_simp
  rw [after0_2]
  frame_out
  rw [iblk0_0]

/-- Its second result. -/
theorem normalized_z10 (c : Dev nD) : (dat0 V c).arrAt 3 cfg0.N = k0_pay3 (F := Ideal) (V c main_arg0) := by
  refine (dat0 V c).arrAt_eq_of_after_last 3 t0_0 (by decide +kernel) _ fun j => ?_
  blk_simp
  rw [after0_3]
  frame_out
  rw [iblk0_0]

/-- Its third result. -/
theorem normalized_t (c : Dev nD) : (dat0 V c).arrAt 4 cfg0.N = k0_pay4 (F := Ideal) (V c main_arg1) := by
  refine (dat0 V c).arrAt_eq_of_after_last 4 t0_0 (by decide +kernel) _ fun j => ?_
  blk_simp
  rw [after0_4]
  frame_out
  rw [iblk0_1]

/-- One tile's new accumulator: the old one plus the tile's share of the loss. -/
def tile (zr : Vec Ideal S1024x128 .f32) (zc : Vec Ideal S4096x128 .f32) (tr : Vec Ideal S1024x64 .bf16) (tc : Vec Ideal S4096x64 .bf16)
    (acc : Vec Ideal S1x1 .f32) : Vec Ideal S1x1 .f32 :=
  k1_pay1 (k1_pay8 (k1_pay3 tr tc) (k1_pay4 tr tc) zr zc) (k1_pay9 zr zc) k1_pay10 acc

/-- The first tile's accumulator starts from zero. -/
theorem outs_A (c : Dev nD) (t : Fin cfg1.N) (h : t.val % 4 = 0) :
    outsAt1 V c t.val t.isLt = tile (iblk1 V c 0 t) (iblk1 V c 1 t) (iblk1 V c 2 t) (iblk1 V c 3 t) (k1_pay2 (F := Ideal)) := by
  rw [outsAt1_A V c t h]
  frame_out
  rfl

/-- Each later tile's accumulator starts from the one before. -/
theorem outs_B (c : Dev nD) (t : Fin cfg1.N) (h : ¬ t.val % 4 = 0) :
    outsAt1 V c t.val t.isLt = tile (iblk1 V c 0 t) (iblk1 V c 1 t) (iblk1 V c 2 t) (iblk1 V c 3 t)
      (outsAt1 V c (t.val - 1) (Nat.lt_of_le_of_lt (Nat.sub_le _ _) t.isLt)) := by
  rw [outsAt1_B V c t h]
  frame_out
  rfl

/-- Row `a` of tile `t`. -/
abbrev tileRow (t : Fin cfg1.N) (a : Fin 1024) : Fin 4096 :=
  ⟨1024 * t.val + a.val, by have : t.val < 4 := lt_of_lt_of_eq t.isLt N_1; omega⟩

/-- The tile of the normalized projections. -/
theorem iblk1_0 (c : Dev nD) (t : Fin cfg1.N) :
    iblk1 V c 0 t = fun y : S1024x128.Idx => (V c main_v0_0 : Vec Ideal S4096x128 .f32) (ix2 (tileRow t (y 0)) (y 1)) := by
  blk_ext! [iblk1, index1 t]

/-- The tile of the normalized topology vectors. -/
theorem iblk1_2 (c : Dev nD) (t : Fin cfg1.N) :
    iblk1 V c 2 t = fun y : S1024x64.Idx => (V c main_v0_2 : Vec Ideal S4096x64 .bf16) (ix2 (tileRow t (y 0)) (y 1)) := by
  blk_ext! [iblk1, index1 t]

/-- All the scaled projections. -/
theorem iblk1_1 (c : Dev nD) (t : Fin cfg1.N) : iblk1 V c 1 t = V c main_v0_1 := by
  blk_ext! [iblk1, index1 t]

/-- All the topology vectors. -/
theorem iblk1_3 (c : Dev nD) (t : Fin cfg1.N) : iblk1 V c 3 t = V c main_v0_2 := by
  blk_ext! [iblk1, index1 t]

/-- The second call's result: the accumulator after the last tile. -/
theorem loss_array (c : Dev nD) : (dat1 V c).arrAt 4 cfg1.N = outsAt1 V c 3 (by decide) := by
  refine (dat1 V c).arrAt_eq_of_after_last 4 t1_3 (by decide +kernel) _ fun j => ?_
  blk_simp
  rw [after1_4]
  rfl

end

end Cert.KernelIdeal.RowTiles

end
-- ==== Proof.Select.lean ====
/- Choosing the largest entries of a row: by sorting, and by peeling off the maximum eight times. -/
module

public import Idealize.ShloMosaic.Lib.SortFacts
public import Idealize.ShloMosaic.Lib.IdealHost
public import Mathlib.Data.Finset.Fold
public import Mathlib.Data.Finset.Card
public import Mathlib.Tactic.Linarith

@[expose] public section

noncomputable section

namespace Cert.Rows

open Idealize.ShloMosaic

variable {n : ℕ}

/-- A permutation puts a row in decreasing order. -/
structure Ordered (x : Fin n → EReal) (σ : Fin n → Fin n) : Prop where
  inj : Function.Injective σ
  surj : Function.Surjective σ
  desc : ∀ k l : Fin n, k ≤ l → x (σ l) ≤ x (σ k)

/-- Sorting by "greater first" orders the row. -/
theorem ordered_sortedFrom (x : Fin n → EReal) (before : Fin n → Fin n → Bool) (hb : ∀ a b, before a b = true ↔ x b < x a) :
    Ordered x (sortedFrom before) where
  inj := sortedFrom_injective before
  surj := sortedFrom_surjective before
  desc k l h := by
    rcases h.eq_or_lt with rfl | h
    · exact le_refl _
    have hf : ∀ a b, before a b = false ↔ x a ≤ x b := fun a b => by
      rw [← not_lt, ← hb a b, Bool.not_eq_true]
    have := sortedFrom_noInversion before before (fun a b h => (hf b a).mpr ((hb a b).mp h).le) (fun _ _ h => h)
      (fun a b c h1 h2 => (hf a c).mpr (((hf a b).mp h1).trans ((hf b c).mp h2))) k l h
    exact (hf _ _).mp this

/-- The largest entry below `p`, with `neg` standing for the others. -/
def below (T : Fin n → EReal) (b neg p : EReal) : EReal := Finset.univ.fold max b fun j => if T j < p then T j else neg

/-- The maximum after peeling off `k` values. -/
def peel (T : Fin n → EReal) (b neg : EReal) : ℕ → EReal
  | 0 => Finset.univ.fold max b T
  | k + 1 => below T b neg (peel T b neg k)

section
variable {T : Fin n → EReal} {σ : Fin n → Fin n} (h : Ordered T σ) (K : ℕ) (hK : K < n)
  (hs : ∀ k l : Fin n, l.val = k.val + 1 → l.val ≤ K → T (σ l) < T (σ k))
include h hs

/-- While the sorted values strictly decrease, the `k`-th peeled maximum is the `k`-th of them. -/
theorem peel_eq (b neg : EReal) (hb : ∀ j, b ≤ T j) (hneg : ∀ j, neg ≤ T j) (k : ℕ) (hk : k < n) (hkK : k ≤ K) :
    peel T b neg k = T (σ ⟨k, hk⟩) := by
  induction k with
  | zero =>
    refine le_antisymm ((Finset.fold_max_le _).mpr ⟨hb _, fun j _ => ?_⟩) (Finset.le_fold_max _ |>.mpr (.inr ⟨_, Finset.mem_univ _, le_refl _⟩))
    obtain ⟨l, rfl⟩ := h.surj j
    exact h.desc _ _ (Fin.mk_le_of_le_val (Nat.zero_le _))
  | succ k ih =>
    unfold peel
    rw [ih (by omega) (by omega)]
    have hlt : T (σ ⟨k + 1, hk⟩) < T (σ ⟨k, by omega⟩) := hs ⟨k, by omega⟩ ⟨k + 1, hk⟩ rfl hkK
    unfold below
    refine le_antisymm ((Finset.fold_max_le _).mpr ⟨hb _, fun j _ => ?_⟩)
      (Finset.le_fold_max _ |>.mpr (.inr ⟨_, Finset.mem_univ (σ ⟨k + 1, hk⟩), ?_⟩))
    · split
      · next hj =>
        obtain ⟨l, rfl⟩ := h.surj j
        refine h.desc _ _ ?_
        by_contra hc
        have hlk : l ≤ ⟨k, by omega⟩ := by
          rw [Fin.le_def] at hc ⊢
          show l.val ≤ k
          have : ¬ k + 1 ≤ l.val := hc
          omega
        exact absurd hj (not_lt.mpr (h.desc _ _ hlk))
      · exact hneg _
    · rw [if_pos hlt]

/-- Below a strict drop, the entries at least the `K-1`-th sorted value are the first `K`. -/
theorem ge_iff (k : ℕ) (hk : k < K) (l : Fin n) : T (σ ⟨k, by omega⟩) ≤ T (σ l) ↔ l.val ≤ k := by
  constructor
  · intro hle
    by_contra hc
    have h1 : T (σ ⟨k + 1, by omega⟩) < T (σ ⟨k, by omega⟩) := hs ⟨k, by omega⟩ ⟨k + 1, by omega⟩ rfl (by show k + 1 ≤ K; omega)
    have h2 : T (σ l) ≤ T (σ ⟨k + 1, by omega⟩) := h.desc _ _ (by rw [Fin.le_def]; show k + 1 ≤ l.val; omega)
    exact absurd (hle.trans h2) (not_le.mpr h1)
  · intro hle
    exact h.desc _ _ (by rw [Fin.le_def]; exact hle)

/-- The entries other than the largest one that are at least the `k`-th sorted value are `k` in number. -/
theorem card_ge (k : ℕ) (hk : k < K) (i : Fin n) (hi : σ ⟨0, by omega⟩ = i) :
    (Finset.univ.filter fun j => j ≠ i ∧ T (σ ⟨k, by omega⟩) ≤ T j).card = k := by
  have e : (Finset.univ.filter fun j => j ≠ i ∧ T (σ ⟨k, by omega⟩) ≤ T j)
      = (Finset.univ.filter fun l : Fin n => 1 ≤ l.val ∧ l.val ≤ k).image σ := by
    ext j
    obtain ⟨l, rfl⟩ := h.surj j
    rw [Finset.mem_filter, Finset.mem_image, ge_iff h K hK hs k hk l]
    constructor
    · rintro ⟨-, hne, hle⟩
      refine ⟨l, Finset.mem_filter.mpr ⟨Finset.mem_univ _, ?_, hle⟩, rfl⟩
      by_contra hc
      refine hne (hi ▸ congrArg σ (Fin.ext ?_))
      show l.val = 0
      omega
    · rintro ⟨l', hl', he⟩
      obtain rfl := h.inj he
      have := (Finset.mem_filter.mp hl').2
      refine ⟨Finset.mem_univ _, fun e => ?_, this.2⟩
      have e0 := congrArg Fin.val (h.inj (e.trans hi.symm))
      have e1 : l'.val = 0 := e0
      omega
  rw [e, Finset.card_image_of_injective _ h.inj]
  have e2 : (Finset.univ.filter fun l : Fin n => 1 ≤ l.val ∧ l.val ≤ k) = (Finset.univ : Finset (Fin k)).image fun a => (⟨a.val + 1, by omega⟩ : Fin n) := by
    ext l
    rw [Finset.mem_filter, Finset.mem_image]
    constructor
    · rintro ⟨-, h1, h2⟩
      exact ⟨⟨l.val - 1, by omega⟩, Finset.mem_univ _, Fin.ext (by show l.val - 1 + 1 = l.val; omega)⟩
    · rintro ⟨a, -, rfl⟩
      exact ⟨Finset.mem_univ _, by show 1 ≤ a.val + 1; omega, by show a.val + 1 ≤ k; omega⟩
  rw [e2, Finset.card_image_of_injective _ fun a b hab => Fin.ext (by have := congrArg Fin.val hab; simp only at this; omega), Finset.card_univ, Fintype.card_fin]

end

/-- If every entry of `B` is greater than every entry outside, the first `|B|` sorted positions are exactly `B`. -/
theorem first_iff {R : Fin n → EReal} {τ : Fin n → Fin n} (h : Ordered R τ) (B : Finset (Fin n)) (hB : ∀ b ∈ B, ∀ a, a ∉ B → R a < R b)
    (j : Fin n) : (∃ k : Fin n, k.val < B.card ∧ τ k = j) ↔ j ∈ B := by
  classical
  set A : Finset (Fin n) := (Finset.univ.filter fun k : Fin n => k.val < B.card).image τ with hA
  have hBn : B.card ≤ n := by simpa using Finset.card_le_univ B
  have hAc : A.card = B.card := by
    rw [hA, Finset.card_image_of_injective _ h.inj]
    have : (Finset.univ.filter fun k : Fin n => k.val < B.card) = (Finset.univ : Finset (Fin B.card)).image fun a => (⟨a.val, by omega⟩ : Fin n) := by
      ext l
      rw [Finset.mem_filter, Finset.mem_image]
      constructor
      · rintro ⟨-, h1⟩
        exact ⟨⟨l.val, h1⟩, Finset.mem_univ _, rfl⟩
      · rintro ⟨a, -, rfl⟩
        exact ⟨Finset.mem_univ _, a.isLt⟩
    rw [this, Finset.card_image_of_injective _ fun a b hab => Fin.ext (by have := congrArg Fin.val hab; simpa using this), Finset.card_univ, Fintype.card_fin]
  have hsub : A ⊆ B := by
    intro a ha
    by_contra hab
    have hne : ¬ B ⊆ A := fun hs => hab (Finset.eq_of_subset_of_card_le hs (le_of_eq hAc) ▸ ha)
    obtain ⟨b, hb, hbA⟩ := Finset.not_subset.mp hne
    obtain ⟨k, hk, rfl⟩ := Finset.mem_image.mp ha
    obtain ⟨l, rfl⟩ := h.surj b
    have hl : ¬ l.val < B.card := fun hl => hbA (Finset.mem_image.mpr ⟨l, Finset.mem_filter.mpr ⟨Finset.mem_univ _, hl⟩, rfl⟩)
    have hk' := (Finset.mem_filter.mp hk).2
    exact absurd (hB _ hb _ hab) (not_lt.mpr (h.desc k l (by rw [Fin.le_def]; omega)))
  have heq : A = B := Finset.eq_of_subset_of_card_le hsub (le_of_eq hAc.symm)
  have hm : j ∈ B ↔ j ∈ A := by rw [heq]
  rw [hm, hA, Finset.mem_image]
  constructor
  · rintro ⟨k, hk, rfl⟩
    exact ⟨k, Finset.mem_filter.mpr ⟨Finset.mem_univ _, hk⟩, rfl⟩
  · rintro ⟨k, hk, rfl⟩
    exact ⟨k, (Finset.mem_filter.mp hk).2, rfl⟩

end Cert.Rows

end
-- ==== Proof.Normalize.lean ====
/- Normalizing a row over the extended reals: it always gives real numbers, and a unit vector when the row is proper. -/
module

public import Idealize.ShloMosaic.Lib.IdealHost
public import Mathlib.Tactic.Linarith
public import Mathlib.Tactic.Ring
public import Mathlib.Tactic.FieldSimp
public import Mathlib.Algebra.Order.BigOperators.Group.Finset

@[expose] public section

noncomputable section

namespace Cert.Rows

open Idealize.ShloMosaic

variable {n d : ℕ}

/-- The Euclidean length of row `i`. -/
def len (X : Fin n → Fin d → EReal) (i : Fin n) : EReal := Ideal.sqrt (∑ k, X i k * X i k)

/-- Row `i` divided by its length, the length taken at least `e`. -/
def unit (e : EReal) (X : Fin n → Fin d → EReal) (i : Fin n) (k : Fin d) : EReal := Ideal.div (X i k) (max (len X i) e)

/-- An extended real times itself is not negative. -/
theorem sq_nonneg' (x : EReal) : 0 ≤ x * x := by
  induction x with
  | bot => simp
  | top => simp
  | coe r => exact_mod_cast mul_self_nonneg r

/-- A finite sum of reals, read in the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite real product of two reals, one factor at a time. -/
theorem coe_dot {ι : Type} (s : Finset ι) (f g : ι → ℝ) :
    ∑ k ∈ s, (f k : EReal) * (g k : EReal) = ((∑ k ∈ s, f k * g k : ℝ) : EReal) := by
  rw [coe_sum]; exact Finset.sum_congr rfl fun k _ => (EReal.coe_mul _ _).symm

/-- Either the squares of a row sum to `⊤`, or the row is real. -/
theorem row_cases (x : Fin d → EReal) : (∑ k, x k * x k = ⊤) ∨ ∃ r : Fin d → ℝ, ∀ k, x k = (r k : EReal) := by
  by_cases h : ∑ k, x k * x k = ⊤
  · exact .inl h
  · refine .inr ⟨fun k => (x k).toReal, fun k => ?_⟩
    have hk : x k * x k ≤ ∑ k, x k * x k := Finset.single_le_sum (f := fun k => x k * x k) (fun k _ => sq_nonneg' (x k)) (Finset.mem_univ k)
    have hlt : x k * x k ≠ ⊤ := fun e => h (top_le_iff.mp (e ▸ hk))
    refine (EReal.coe_toReal ?_ ?_).symm
    · intro e; rw [e] at hlt; exact hlt (by simp)
    · intro e; rw [e] at hlt; exact hlt (by simp)

/-- A row whose squares sum to `⊤` is normalized to zero. -/
theorem unit_top (e : EReal) (X : Fin n → Fin d → EReal) (i : Fin n) (h : ∑ k, X i k * X i k = ⊤) (k : Fin d) : unit e X i k = 0 := by
  unfold unit len
  rw [h, Ideal.sqrt_top, max_eq_left le_top, Ideal.div, if_neg (by simp), EReal.inv_top, mul_zero]

/-- A real row is normalized to the row over the larger of its length and `e`. -/
theorem unit_coe (e : ℝ) (he : 0 < e) (X : Fin n → Fin d → EReal) (i : Fin n) (r : Fin d → ℝ) (h : ∀ k, X i k = (r k : EReal)) (k : Fin d) :
    unit (e : EReal) X i k = ((r k / max (Real.sqrt (∑ k, r k * r k)) e : ℝ) : EReal) := by
  have hs : ∑ k, X i k * X i k = ((∑ k, r k * r k : ℝ) : EReal) := by
    rw [← coe_dot]; exact Finset.sum_congr rfl fun k _ => by rw [h k]
  have h0 : ¬ (∑ k, r k * r k) < 0 := not_lt.mpr (Finset.sum_nonneg fun k _ => mul_self_nonneg (r k))
  unfold unit len
  rw [hs, Ideal.sqrt_coe, if_neg h0, ← EReal.coe_strictMono.monotone.map_max, h k, Ideal.div_coe (ne_of_gt (lt_max_of_lt_right he)), ← EReal.coe_mul, mul_one_div]

/-- Normalized rows are real, whatever the entries. -/
theorem unit_real (e : ℝ) (he : 0 < e) (X : Fin n → Fin d → EReal) (i : Fin n) (k : Fin d) :
    unit (e : EReal) X i k = ((unit (e : EReal) X i k).toReal : EReal) := by
  rcases row_cases (X i) with h | ⟨r, h⟩
  · rw [unit_top _ X i h k]; rfl
  · rw [unit_coe e he X i r h k]; rfl

/-- A row of length at least `e` is normalized to a unit vector or to zero. -/
theorem unit_sq (e : ℝ) (he : 0 < e) (X : Fin n → Fin d → EReal) (i : Fin n) (hl : (e : EReal) ≤ len X i) :
    (∀ k, unit (e : EReal) X i k = 0) ∨ ∑ k, (unit (e : EReal) X i k).toReal * (unit (e : EReal) X i k).toReal = 1 := by
  rcases row_cases (X i) with h | ⟨r, h⟩
  · exact .inl fun k => unit_top _ X i h k
  · right
    have hs : ∑ k, X i k * X i k = ((∑ k, r k * r k : ℝ) : EReal) := by
      rw [← coe_dot]; exact Finset.sum_congr rfl fun k _ => by rw [h k]
    have h0 : 0 ≤ ∑ k, r k * r k := Finset.sum_nonneg fun k _ => mul_self_nonneg (r k)
    rw [len, hs, Ideal.sqrt_coe, if_neg (not_lt.mpr h0), EReal.coe_le_coe_iff] at hl
    have hq : 0 < Real.sqrt (∑ k, r k * r k) := lt_of_lt_of_le he hl
    have e1 : ∀ k, (unit (e : EReal) X i k).toReal = r k / Real.sqrt (∑ k, r k * r k) := fun k => by
      rw [unit_coe e he X i r h k, max_eq_left hl, EReal.toReal_coe]
    simp only [e1, div_mul_div_comm, Real.mul_self_sqrt h0]
    rw [← Finset.sum_div, div_self]
    exact ne_of_gt (Real.sqrt_pos.mp hq)

/-- Two vectors of square length at most one have inner product between minus one and one. -/
theorem dot_bounds (u v : Fin d → ℝ) (hu : ∑ k, u k * u k ≤ 1) (hv : ∑ k, v k * v k ≤ 1) : -1 ≤ ∑ k, u k * v k ∧ ∑ k, u k * v k ≤ 1 := by
  have h1 : 0 ≤ ∑ k, (u k - v k) * (u k - v k) := Finset.sum_nonneg fun k _ => mul_self_nonneg _
  have h2 : 0 ≤ ∑ k, (u k + v k) * (u k + v k) := Finset.sum_nonneg fun k _ => mul_self_nonneg _
  have e1 : ∑ k, (u k - v k) * (u k - v k) = ∑ k, u k * u k + ∑ k, v k * v k - 2 * ∑ k, u k * v k := by
    rw [Finset.mul_sum, ← Finset.sum_add_distrib, ← Finset.sum_sub_distrib]
    exact Finset.sum_congr rfl fun k _ => by ring
  have e2 : ∑ k, (u k + v k) * (u k + v k) = ∑ k, u k * u k + ∑ k, v k * v k + 2 * ∑ k, u k * v k := by
    rw [Finset.mul_sum, ← Finset.sum_add_distrib, ← Finset.sum_add_distrib]
    exact Finset.sum_congr rfl fun k _ => by ring
  constructor <;> linarith

end Cert.Rows

end
-- ==== Proof.Row.lean ====
/- One row's loss: the kernel's and the reference's formulas, each as a real number. -/
module

public import proofs.«01_k».proof.Proof.Normalize
public import Mathlib.Data.Finset.Fold
public import Mathlib.Analysis.SpecialFunctions.Log.Basic

@[expose] public section

noncomputable section

namespace Cert.Rows

open Idealize.ShloMosaic

variable {n : ℕ}

/-- The row's loss as a real number: the logarithm of the sum of exponentials off the diagonal, less the mean over the eight positives. -/
def rowLoss (L : Fin n → ℝ) (i : Fin n) (B : Finset (Fin n)) : ℝ :=
  Real.log (∑ j ∈ Finset.univ.erase i, Real.exp (L j)) - (∑ j ∈ B, L j) / 8

/-- The kernel's row: the diagonal's terms are taken off afterwards, and the positives are chosen by a threshold. -/
def kernelRow (l T : Fin n → EReal) (lii t eight : EReal) : EReal :=
  Ideal.log ((∑ j, Ideal.exp (l j)) - Ideal.exp lii) - Ideal.div ((∑ j, if t ≤ T j then l j else 0) - lii) eight

/-- The reference's row, from the masked logits and the mask. -/
def refRow (l mk : Fin n → EReal) : EReal :=
  Ideal.div (-(∑ j, (l j - (Ideal.log (∑ j, Ideal.exp (l j - Finset.univ.fold max ⊥ l)) + Finset.univ.fold max ⊥ l)) * mk j)) (max (∑ j, mk j) 1)

/-- The kernel's row is the row's loss, if the threshold is passed by the diagonal and the eight positives alone. -/
theorem kernelRow_eq (L : Fin n → ℝ) (i : Fin n) (B : Finset (Fin n)) (hi : i ∉ B) (hB : B.Nonempty) (l T : Fin n → EReal) (lii t : EReal)
    (hl : ∀ j, l j = (L j : EReal)) (hlii : lii = (L i : EReal)) (ht : ∀ j, t ≤ T j ↔ j = i ∨ j ∈ B) :
    kernelRow l T lii t ((8 : ℝ) : EReal) = (rowLoss L i B : EReal) := by
  have h1 : ∑ j, Ideal.exp (l j) = ((∑ j, Real.exp (L j) : ℝ) : EReal) := by
    rw [coe_sum]; exact Finset.sum_congr rfl fun j _ => by rw [hl j, Ideal.exp_coe]
  have h2 : (∑ j, if t ≤ T j then l j else 0) = ((L i + ∑ j ∈ B, L j : ℝ) : EReal) := by
    rw [← Finset.sum_insert hi, coe_sum, ← Finset.sum_filter]
    refine Finset.sum_congr ?_ fun j _ => hl j
    ext j
    rw [Finset.mem_filter, Finset.mem_insert, ht j]
    exact and_iff_right (Finset.mem_univ _)
  obtain ⟨b, hb⟩ := hB
  have hbi : b ≠ i := fun e => hi (e ▸ hb)
  have hpos : 0 < ∑ j ∈ Finset.univ.erase i, Real.exp (L j) :=
    Finset.sum_pos (fun j _ => Real.exp_pos _) ⟨b, Finset.mem_erase.mpr ⟨hbi, Finset.mem_univ _⟩⟩
  have h3 : (∑ j, Real.exp (L j)) - Real.exp (L i) = ∑ j ∈ Finset.univ.erase i, Real.exp (L j) := by
    rw [← Finset.add_sum_erase Finset.univ _ (Finset.mem_univ i)]; ring
  unfold kernelRow rowLoss
  rw [h1, h2, hlii, Ideal.exp_coe, ← EReal.coe_sub, ← EReal.coe_sub, h3, Ideal.log_coe, if_neg (not_le.mpr hpos),
    Ideal.div_coe (by norm_num), ← EReal.coe_mul, ← EReal.coe_sub]
  congr 2
  ring

/-- The maximum of a row whose diagonal is `⊥` is a real number. -/
theorem foldMax_real (L : Fin n → ℝ) (i b : Fin n) (hb : b ≠ i) (l : Fin n → EReal) (hl : ∀ j, l j = if j = i then ⊥ else (L j : EReal)) :
    ∃ m : ℝ, Finset.univ.fold max ⊥ l = (m : EReal) := by
  refine ⟨(Finset.univ.fold max ⊥ l).toReal, (EReal.coe_toReal ?_ ?_).symm⟩
  · refine ne_of_lt ((Finset.fold_max_lt _).mpr ⟨bot_lt_top, fun j _ => ?_⟩)
    rw [hl j]
    split
    · exact bot_lt_top
    · exact EReal.coe_lt_top _
  · refine ne_of_gt (Finset.lt_fold_max _ |>.mpr (.inr ⟨b, Finset.mem_univ _, ?_⟩))
    rw [hl b, if_neg hb]
    exact EReal.bot_lt_coe _

/-- The reference's row is the row's loss, if the mask is that of eight positives off the diagonal. -/
theorem refRow_eq (L : Fin n → ℝ) (i : Fin n) (B : Finset (Fin n)) (hi : i ∉ B) (hB : B.card = 8) (l mk : Fin n → EReal)
    (hl : ∀ j, l j = if j = i then ⊥ else (L j : EReal)) (hm : ∀ j, mk j = if j ∈ B then 1 else 0) :
    refRow l mk = (rowLoss L i B : EReal) := by
  obtain ⟨b, hb⟩ : B.Nonempty := Finset.card_pos.mp (by omega)
  have hbi : b ≠ i := fun e => hi (e ▸ hb)
  obtain ⟨m, hmax⟩ := foldMax_real L i b hbi l hl
  have hpos : 0 < ∑ j ∈ Finset.univ.erase i, Real.exp (L j - m) :=
    Finset.sum_pos (fun j _ => Real.exp_pos _) ⟨b, Finset.mem_erase.mpr ⟨hbi, Finset.mem_univ _⟩⟩
  have hpos' : 0 < ∑ j ∈ Finset.univ.erase i, Real.exp (L j) :=
    Finset.sum_pos (fun j _ => Real.exp_pos _) ⟨b, Finset.mem_erase.mpr ⟨hbi, Finset.mem_univ _⟩⟩
  have h1 : ∑ j, Ideal.exp (l j - (m : EReal)) = ((∑ j ∈ Finset.univ.erase i, Real.exp (L j - m) : ℝ) : EReal) := by
    rw [← Finset.add_sum_erase Finset.univ _ (Finset.mem_univ i), hl i, if_pos rfl, EReal.bot_sub, Ideal.exp_bot, zero_add, coe_sum]
    refine Finset.sum_congr rfl fun j hj => ?_
    rw [hl j, if_neg (Finset.ne_of_mem_erase hj), ← EReal.coe_sub, Ideal.exp_coe]
  have hlse : Ideal.log (∑ j, Ideal.exp (l j - (m : EReal))) + (m : EReal) = ((Real.log (∑ j ∈ Finset.univ.erase i, Real.exp (L j)) : ℝ) : EReal) := by
    rw [h1, Ideal.log_coe, if_neg (not_le.mpr hpos), ← EReal.coe_add]
    have : ∑ j ∈ Finset.univ.erase i, Real.exp (L j - m) = (∑ j ∈ Finset.univ.erase i, Real.exp (L j)) / Real.exp m := by
      rw [Finset.sum_div]; exact Finset.sum_congr rfl fun j _ => Real.exp_sub _ _
    rw [this, Real.log_div hpos'.ne' (Real.exp_pos m).ne', Real.log_exp, sub_add_cancel]
  have hc : ∑ j, mk j = ((8 : ℝ) : EReal) := by
    have : ∑ j, mk j = ((∑ j ∈ B, (1 : ℝ) : ℝ) : EReal) := by
      rw [coe_sum, ← Finset.sum_filter_add_sum_filter_not Finset.univ (fun j => j ∈ B)]
      rw [Finset.sum_eq_zero (s := Finset.univ.filter fun j => ¬ j ∈ B) fun j hj => by rw [hm j, if_neg (Finset.mem_filter.mp hj).2], add_zero]
      refine Finset.sum_congr (by ext j; simp) fun j hj => by rw [hm j, if_pos hj]; rfl
    rw [this, Finset.sum_const, hB]; norm_num
  set S := Real.log (∑ j ∈ Finset.univ.erase i, Real.exp (L j)) with hS
  have hs : ∑ j, (l j - (S : EReal)) * mk j = ((∑ j ∈ B, (L j - S) : ℝ) : EReal) := by
    rw [coe_sum, ← Finset.sum_filter_add_sum_filter_not Finset.univ (fun j => j ∈ B)]
    rw [Finset.sum_eq_zero (s := Finset.univ.filter fun j => ¬ j ∈ B) fun j hj => by rw [hm j, if_neg (Finset.mem_filter.mp hj).2, mul_zero], add_zero]
    refine Finset.sum_congr (by ext j; simp) fun j hj => ?_
    rw [hm j, if_pos hj, mul_one, hl j, if_neg (show j ≠ i from fun e => hi (e ▸ hj)), EReal.coe_sub]
  unfold refRow rowLoss
  rw [hmax, hlse, hs, hc, max_eq_left (by exact_mod_cast (by norm_num : (1 : ℝ) ≤ 8)), Ideal.div_coe (by norm_num), ← EReal.coe_neg, ← EReal.coe_mul,
    Finset.sum_sub_distrib, Finset.sum_const, hB, ← hS]
  congr 1
  simp only [nsmul_eq_mul]
  push_cast
  ring

end Cert.Rows

end
-- ==== Proof.Payloads.lean ====
/- The bodies' payloads read at an index, over the extended reals. -/
module

public import proofs.«01_k».proof.Proof.Gen.KernelIdeal
public import proofs.«01_k».proof.Proof.Gen.KernelIdeal.Skeleton
public import proofs.«01_k».proof.Proof.Select
public import proofs.«01_k».proof.Proof.Row
public import Idealize.ShloMosaic.Lib.Pointwise

@[expose] public section

set_option maxRecDepth 16384

noncomputable section

namespace Cert.KernelIdeal.RowTiles

open Idealize.ShloMosaic Idealize.ShloMosaic.TcCoe Idealize.SL.Sem
open Cert.KernelIdeal Cert.KernelIdeal.Gen

/-! ## The normalizing call -/

/-- The projections, normalized. -/
theorem k0_pay2_apply (x : Vec Ideal S4096x128 .f32) (i : Fin 4096) (k : Fin 128) :
    k0_pay2 (F := Ideal) x (ix2 i k) = Cert.Rows.unit (Ideal.ofBits .f32 0x2B8CBCCC#32) (fun i k => x (ix2 i k)) i k := by
  unfold Cert.Rows.unit Cert.Rows.len
  pointwise [k0_pay2, k0_pay1]

/-- The projections, normalized and multiplied by ten. -/
theorem k0_pay3_apply (x : Vec Ideal S4096x128 .f32) (i : Fin 4096) (k : Fin 128) :
    k0_pay3 (F := Ideal) x (ix2 i k)
      = Cert.Rows.unit (Ideal.ofBits .f32 0x2B8CBCCC#32) (fun i k => x (ix2 i k)) i k * Ideal.ofBits .f32 0x41200000#32 := by
  unfold Cert.Rows.unit Cert.Rows.len
  pointwise [k0_pay3, k0_pay1]

/-- The topology vectors, normalized. -/
theorem k0_pay4_apply (x : Vec Ideal S4096x64 .f32) (i : Fin 4096) (k : Fin 64) :
    k0_pay4 (F := Ideal) x (ix2 i k) = Cert.Rows.unit (Ideal.ofBits .f32 0x2B8CBCCC#32) (fun i k => x (ix2 i k)) i k := by
  unfold Cert.Rows.unit Cert.Rows.len
  pointwise [k0_pay4]

/-! ## The row tiles -/

/-- The tile's similarities. -/
theorem k1_pay3_apply (tr : Vec Ideal S1024x64 .bf16) (tc : Vec Ideal S4096x64 .bf16) (a : Fin 1024) (j : Fin 4096) :
    k1_pay3 (F := Ideal) tr tc (ix2 a j) = ∑ k : Fin 64, tr (ix2 a k) * tc (ix2 j k) := by
  pointwise [k1_pay3]

/-- The tile's logits. -/
theorem k1_pay6_apply (zr : Vec Ideal S1024x128 .f32) (zc : Vec Ideal S4096x128 .f32) (a : Fin 1024) (j : Fin 4096) :
    k1_pay6 (F := Ideal) zr zc (ix2 a j) = ∑ k : Fin 128, zr (ix2 a k) * zc (ix2 j k) := by
  pointwise [k1_pay6, k1_pay5]

/-- The tile's diagonal logits, computed from the rows alone. -/
theorem k1_pay7_apply (zr : Vec Ideal S1024x128 .f32) (a : Fin 1024) :
    k1_pay7 (F := Ideal) zr (ix2 a 0) = Ideal.ofBits .f32 0x41200000#32 * ∑ k : Fin 128, zr (ix2 a k) * zr (ix2 a k) := by
  pointwise [k1_pay7, k1_pay5]

/-- The logarithm of the sum of exponentials off the diagonal. -/
theorem k1_pay9_apply (zr : Vec Ideal S1024x128 .f32) (zc : Vec Ideal S4096x128 .f32) (a : Fin 1024) :
    k1_pay9 (F := Ideal) zr zc (ix2 a 0)
      = Ideal.log ((∑ j, Ideal.exp (k1_pay6 (F := Ideal) zr zc (ix2 a j))) - Ideal.exp (k1_pay7 (F := Ideal) zr (ix2 a 0))) := by
  pointwise [k1_pay9]

/-- The constant eight. -/
theorem k1_pay10_apply (a : Fin 1024) : k1_pay10 (F := Ideal) (ix2 a 0) = Ideal.ofBits .f32 0x41000000#32 := by
  pointwise [k1_pay10]

/-- The tile's share of the loss, added to the accumulator. -/
theorem k1_pay1_apply (x y z : Vec Ideal S1024x1 .f32) (acc : Vec Ideal S1x1 .f32) :
    k1_pay1 (F := Ideal) x y z acc (ix2 0 0)
      = acc (ix2 0 0) + Ideal.div (∑ a : Fin 1024, (y (ix2 a 0) - Ideal.div (x (ix2 a 0)) (z (ix2 a 0)))) (Ideal.ofBits .f32 0x45800000#32) := by
  pointwise [k1_pay1]

/-- The accumulator starts at zero. -/
theorem k1_pay2_apply : k1_pay2 (F := Ideal) (ix2 0 0) = 0 := by
  pointwise [k1_pay2]

/-! ## The threshold -/

/-- One peeling step on a tile of similarities: the row maximum of the entries below the row's `p`. -/
def peelStep (x : FVec Ideal S1024x4096 .bf16) (p : FVec Ideal S1024 .bf16) : FVec Ideal S1024 .bf16 :=
  multiReduction .maximumf [1] S1024
    (select (cmpf .olt x (broadcastTo S1024x4096 (shapeCast S1024x1 p shapeCasts_S1024_S1024x1) broadcasts_S1024x1_S1024x4096)) x
      (broadcast S1024x4096 (Scalar.ofBits .bf16 0xFF62#16)))
    0xFF80#16 reduces_S1024x4096_S1024 (.inr rfl) rfl

/-- The row maxima. -/
def rowMax (x : FVec Ideal S1024x4096 .bf16) : FVec Ideal S1024 .bf16 :=
  multiReduction .maximumf [1] S1024 x 0xFF80#16 reduces_S1024x4096_S1024 (.inr rfl) rfl

/-- The logits at the similarities at least the row's `q`, summed, less the diagonal `d`. -/
def overThreshold (x : FVec Ideal S1024x4096 .bf16) (q : FVec Ideal S1024 .bf16) (l : FVec Ideal S1024x4096 .f32) (d : FVec Ideal S1024x1 .f32) :
    FVec Ideal S1024x1 .f32 :=
  subf (shapeCast S1024x1 (multiReduction .add [1] S1024
    (select (cmpf .oge x (broadcastTo S1024x4096 (shapeCast S1024x1 q shapeCasts_S1024_S1024x1) broadcasts_S1024x1_S1024x4096))
      l (broadcast S1024x4096 (Scalar.ofBits .f32 0x00000000#32))) 0x00000000#32 reduces_S1024x4096_S1024 (.inl rfl) rfl) shapeCasts_S1024_S1024x1) d

theorem peelStep_apply (x : FVec Ideal S1024x4096 .bf16) (p : FVec Ideal S1024 .bf16) (a : Fin 1024) :
    peelStep x p (ix1 a)
      = Cert.Rows.below (fun j => x (ix2 a j)) (Ideal.ofBits .bf16 0xFF80#16) (Ideal.ofBits .bf16 0xFF62#16) (p (ix1 a)) := by
  unfold Cert.Rows.below
  pointwise [peelStep]

theorem rowMax_apply (x : FVec Ideal S1024x4096 .bf16) (a : Fin 1024) :
    rowMax x (ix1 a) = Finset.univ.fold max (Ideal.ofBits .bf16 0xFF80#16) (fun j => x (ix2 a j)) := by
  pointwise [rowMax]

theorem overThreshold_apply (x : FVec Ideal S1024x4096 .bf16) (q : FVec Ideal S1024 .bf16) (l : FVec Ideal S1024x4096 .f32)
    (d : FVec Ideal S1024x1 .f32) (a : Fin 1024) :
    overThreshold x q l d (ix2 a 0) = (∑ j : Fin 4096, if q (ix1 a) ≤ x (ix2 a j) then l (ix2 a j) else 0) - d (ix2 a 0) := by
  pointwise [overThreshold]

/-- The first five steps. -/
theorem k1_pay4_eq (tr : Vec Ideal S1024x64 .bf16) (tc : Vec Ideal S4096x64 .bf16) :
    k1_pay4 (F := Ideal) tr tc
      = (peelStep (k1_pay3 (F := Ideal) tr tc))^[5] (rowMax (k1_pay3 (F := Ideal) tr tc)) := by
  rfl

/-- The last three steps, and the sum over the threshold. -/
theorem k1_pay8_eq (x : FVec Ideal S1024x4096 .bf16) (p : FVec Ideal S1024 .bf16) (zr : Vec Ideal S1024x128 .f32) (zc : Vec Ideal S4096x128 .f32) :
    k1_pay8 (F := Ideal) x p zr zc = overThreshold x ((peelStep x)^[3] p) (k1_pay6 (F := Ideal) zr zc) (k1_pay7 (F := Ideal) zr) := by
  rfl

/-- `k` peeling steps are the peeled maximum. -/
theorem peelSteps_apply (x : FVec Ideal S1024x4096 .bf16) (a : Fin 1024) (k : ℕ) :
    (peelStep x)^[k] (rowMax x) (ix1 a)
      = Cert.Rows.peel (fun j => x (ix2 a j)) (Ideal.ofBits .bf16 0xFF80#16) (Ideal.ofBits .bf16 0xFF62#16) k := by
  induction k with
  | zero => exact rowMax_apply x a
  | succ k ih => rw [Function.iterate_succ_apply', peelStep_apply, ih]; rfl

/-- The threshold-selected logits less the diagonal. -/
theorem positives_apply (tr : Vec Ideal S1024x64 .bf16) (tc : Vec Ideal S4096x64 .bf16) (zr : Vec Ideal S1024x128 .f32) (zc : Vec Ideal S4096x128 .f32)
    (a : Fin 1024) :
    k1_pay8 (F := Ideal) (k1_pay3 (F := Ideal) tr tc) (k1_pay4 (F := Ideal) tr tc) zr zc (ix2 a 0)
      = (∑ j : Fin 4096, if Cert.Rows.peel (fun j => k1_pay3 (F := Ideal) tr tc (ix2 a j)) (Ideal.ofBits .bf16 0xFF80#16) (Ideal.ofBits .bf16 0xFF62#16) 8
            ≤ k1_pay3 (F := Ideal) tr tc (ix2 a j) then k1_pay6 (F := Ideal) zr zc (ix2 a j) else 0) - k1_pay7 (F := Ideal) zr (ix2 a 0) := by
  rw [k1_pay8_eq, overThreshold_apply, k1_pay4_eq, ← Function.iterate_add_apply, peelSteps_apply]

end Cert.KernelIdeal.RowTiles

end
-- ==== Proof.KernelLoss.lean ====
/- The idealized kernel's result as four tiles' sums of row losses. -/
module

public import proofs.«01_k».proof.Proof.KernelValue
public import proofs.«01_k».proof.Proof.Payloads

@[expose] public section

set_option maxRecDepth 16384

noncomputable section

namespace Cert.KernelIdeal.RowTiles

open Idealize.ShloMosaic Idealize.ShloMosaic.TcCoe Idealize.SL.Sem
open Idealize.ShloMosaic.Pipeline (Dat)
open Cert.KernelIdeal Cert.KernelIdeal.Gen Cert.Rows

variable (m : (ℓ : Loc nD τ sig) → Buf (Elt Ideal) ℓ) (ρ : Dev nD → PrngReg)

/-- The kernel's row `i`, from the normalized rows. -/
def kRow (eps ten eight b neg : EReal) (X : Fin 4096 → Fin 128 → EReal) (Y : Fin 4096 → Fin 64 → EReal) (i : Fin 4096) : EReal :=
  kernelRow (fun j => ∑ k, unit eps X i k * (unit eps X j k * ten)) (fun j => ∑ k, unit eps Y i k * unit eps Y j k)
    (ten * ∑ k, unit eps X i k * unit eps X i k) (peel (fun j => ∑ k, unit eps Y i k * unit eps Y j k) b neg 8) eight

/-- The kernel's row at its own constants. -/
abbrev kRowC (X : Vec Ideal S4096x128 .f32) (Y : Vec Ideal S4096x64 .f32) (i : Fin 4096) : EReal :=
  kRow (Ideal.ofBits .f32 0x2B8CBCCC#32) (Ideal.ofBits .f32 0x41200000#32) (Ideal.ofBits .f32 0x41000000#32) (Ideal.ofBits .bf16 0xFF80#16)
    (Ideal.ofBits .bf16 0xFF62#16) (fun i k => X (ix2 i k)) (fun i k => Y (ix2 i k)) i

/-- A tile adds its rows' losses over 4096 to the accumulator. -/
theorem tile_apply (X : Vec Ideal S4096x128 .f32) (Y : Vec Ideal S4096x64 .f32) (r : Fin 1024 → Fin 4096) (acc : Vec Ideal S1x1 .f32)
    (zr : Vec Ideal S1024x128 .f32) (zc : Vec Ideal S4096x128 .f32) (tr : Vec Ideal S1024x64 .bf16) (tc : Vec Ideal S4096x64 .bf16)
    (hzr : ∀ a k, zr (ix2 a k) = unit (Ideal.ofBits .f32 0x2B8CBCCC#32) (fun i k => X (ix2 i k)) (r a) k)
    (hzc : ∀ j k, zc (ix2 j k) = unit (Ideal.ofBits .f32 0x2B8CBCCC#32) (fun i k => X (ix2 i k)) j k * Ideal.ofBits .f32 0x41200000#32)
    (htr : ∀ a k, tr (ix2 a k) = unit (Ideal.ofBits .f32 0x2B8CBCCC#32) (fun i k => Y (ix2 i k)) (r a) k)
    (htc : ∀ j k, tc (ix2 j k) = unit (Ideal.ofBits .f32 0x2B8CBCCC#32) (fun i k => Y (ix2 i k)) j k) :
    tile zr zc tr tc acc (ix2 0 0) = acc (ix2 0 0) + Ideal.div (∑ a, kRowC X Y (r a)) (Ideal.ofBits .f32 0x45800000#32) := by
  unfold tile
  rw [k1_pay1_apply]
  refine congrArg (fun s => acc (ix2 0 0) + Ideal.div s _) (Finset.sum_congr rfl fun a _ => ?_)
  rw [k1_pay9_apply, positives_apply, k1_pay10_apply]
  unfold kRowC kRow kernelRow
  simp only [k1_pay6_apply, k1_pay3_apply, k1_pay7_apply, hzr, hzc, htr, htc]

/-- The same of the normalized arrays' rows. -/
theorem tile_rows (X : Vec Ideal S4096x128 .f32) (Y : Vec Ideal S4096x64 .f32) (r : Fin 1024 → Fin 4096) (acc : Vec Ideal S1x1 .f32) :
    tile (fun y => k0_pay2 (F := Ideal) X (ix2 (r (y 0)) (y 1))) (k0_pay3 (F := Ideal) X) (fun y => k0_pay4 (F := Ideal) Y (ix2 (r (y 0)) (y 1)))
        (k0_pay4 (F := Ideal) Y) acc (ix2 0 0)
      = acc (ix2 0 0) + Ideal.div (∑ a, kRowC X Y (r a)) (Ideal.ofBits .f32 0x45800000#32) :=
  tile_apply X Y r acc _ _ _ _ (fun a k => k0_pay2_apply X (r a) k) (k0_pay3_apply X) (fun a k => k0_pay4_apply Y (r a) k) (k0_pay4_apply Y)

section
variable (V : (c : Dev nD) → (b : Ref sig .tc) → Buf (Elt Ideal) ((c : Thread nD τ).loc b)) (X : Vec Ideal S4096x128 .f32) (Y : Vec Ideal S4096x64 .f32)

/-- A tile's rows' losses, summed and over 4096. -/
abbrev part (t : Fin cfg1.N) : EReal := Ideal.div (∑ a, kRowC X Y (tileRow t a)) (Ideal.ofBits .f32 0x45800000#32)

/-- The accumulator after the last tile, from the normalized arrays. -/
theorem acc_eq (c : Dev nD) (h0 : V c main_v0_0 = k0_pay2 (F := Ideal) X) (h1 : V c main_v0_1 = k0_pay3 (F := Ideal) X) (h2 : V c main_v0_2 = k0_pay4 (F := Ideal) Y) :
    outsAt1 V c 3 (by decide) (ix2 0 0) = 0 + part X Y t1_0 + part X Y t1_1 + part X Y t1_2 + part X Y t1_3 := by
  have e0 : outsAt1 V c 0 (by decide) (ix2 0 0) = 0 + part X Y t1_0 := by
    rw [show outsAt1 V c 0 (by decide) = _ from outs_A V c t1_0 (by decide), iblk1_0, iblk1_1, iblk1_2, iblk1_3, h0, h1, h2, tile_rows, k1_pay2_apply]
  have e1 : outsAt1 V c 1 (by decide) (ix2 0 0) = 0 + part X Y t1_0 + part X Y t1_1 := by
    rw [show outsAt1 V c 1 (by decide) = _ from outs_B V c t1_1 (by decide), iblk1_0, iblk1_1, iblk1_2, iblk1_3, h0, h1, h2, tile_rows]
    exact congrArg (· + part X Y t1_1) e0
  have e2 : outsAt1 V c 2 (by decide) (ix2 0 0) = 0 + part X Y t1_0 + part X Y t1_1 + part X Y t1_2 := by
    rw [show outsAt1 V c 2 (by decide) = _ from outs_B V c t1_2 (by decide), iblk1_0, iblk1_1, iblk1_2, iblk1_3, h0, h1, h2, tile_rows]
    exact congrArg (· + part X Y t1_2) e1
  rw [show outsAt1 V c 3 (by decide) = _ from outs_B V c t1_3 (by decide), iblk1_0, iblk1_1, iblk1_2, iblk1_3, h0, h1, h2, tile_rows]
  exact congrArg (· + part X Y t1_3) e2

end

/-- The kernel's result: the four tiles' parts. -/
theorem result (c : Dev nD) (j : S_.Idx) :
    (W3 m ρ c (Proc.devRef .tc main_v2) : Vec Ideal S_ .f32) j
      = 0 + part (m ((c : Thread nD τ).loc main_arg0)) (m ((c : Thread nD τ).loc main_arg1)) t1_0
          + part (m ((c : Thread nD τ).loc main_arg0)) (m ((c : Thread nD τ).loc main_arg1)) t1_1
          + part (m ((c : Thread nD τ).loc main_arg0)) (m ((c : Thread nD τ).loc main_arg1)) t1_2
          + part (m ((c : Thread nD τ).loc main_arg0)) (m ((c : Thread nD τ).loc main_arg1)) t1_3 := by
  rw [← acc_eq (V1 m ρ) (m ((c : Thread nD τ).loc main_arg0)) (m ((c : Thread nD τ).loc main_arg1)) c
    ((W1_arr m ρ c 2).trans (normalized_z (V0 m ρ) c)) ((W1_arr m ρ c 3).trans (normalized_z10 (V0 m ρ) c))
    ((W1_arr m ρ c 4).trans (normalized_t (V0 m ρ) c)), ← loss_array, ← W2_arr]
  unfold W3
  after_results
  pointwise

end Cert.KernelIdeal.RowTiles

end
-- ==== Proof.Reference.lean ====
/- The reference's result in stages, and each stage read at an index over the extended reals. -/
module

public import proofs.«01_k».proof.Proof.Gen.ReferenceIdeal
public import proofs.«01_k».proof.Proof.Gen.ReferenceIdeal.Run
public import proofs.«01_k».proof.Proof.Row
public import Idealize.ShloMosaic.Lib.Pointwise

@[expose] public section

set_option maxRecDepth 16384

noncomputable section

namespace Cert.ReferenceIdeal.Stages

open Idealize.ShloMosaic Idealize.ShloMosaic.TcCoe Idealize.SL.Sem
open Cert.ReferenceIdeal Cert.ReferenceIdeal.Gen

/-- The normalized projections. -/
def unitZ (X : FVec Ideal S4096x128 .f32) : FVec Ideal S4096x128 .f32 :=
  Host.divf X (broadcastInDim S4096x128 ![0, 1] bcast_S4096x1_S4096x128_0_1 (maximumf
    (Host.sqrt (broadcastInDim S4096x1 ![0] bcast_S4096_S4096x1_0 (Host.reduceAdd (mulf X X) (constant S_ .f32 0x00000000#32) reducesTo_S4096x128_S4096_d1 h_S_)))
    (broadcastInDim S4096x1 ![] bcast_S_S4096x1 (constant S_ .f32 0x2B8CBCCC#32))))

/-- The normalized topology vectors. -/
def unitT (Y : FVec Ideal S4096x64 .f32) : FVec Ideal S4096x64 .f32 :=
  Host.divf Y (broadcastInDim S4096x64 ![0, 1] bcast_S4096x1_S4096x64_0_1 (maximumf
    (Host.sqrt (broadcastInDim S4096x1 ![0] bcast_S4096_S4096x1_0 (Host.reduceAdd (mulf Y Y) (constant S_ .f32 0x00000000#32) reducesTo_S4096x64_S4096_d1 h_S_)))
    (broadcastInDim S4096x1 ![] bcast_S_S4096x1 (constant S_ .f32 0x2B8CBCCC#32))))

/-- The inner products of the rows over the temperature. -/
def logitsOf (Z : FVec Ideal S4096x128 .f32) : FVec Ideal S4096x4096 .f32 :=
  Host.divf (Host.dotGeneral dot_S4096x128_S128x4096_S4096x4096_1_0_0_1_n_n none Z (transpose S128x4096 [1, 0] Z transposes_S4096x128_S128x4096_1_0))
    (broadcastInDim S4096x4096 ![] bcast_S_S4096x4096 (Host.divf (constant S_ .f32 0x3F800000#32) (constant S_ .f32 0x41200000#32)))

/-- The similarities, mapped from `[-1, 1]` to `[0, 1]`. -/
def simsOf (T : FVec Ideal S4096x64 .f32) : FVec Ideal S4096x4096 .f32 :=
  mulf (broadcastInDim S4096x4096 ![] bcast_S_S4096x4096 (constant S_ .f32 0x3F000000#32))
    (addf (Host.dotGeneral dot_S4096x64_S64x4096_S4096x4096_1_0_0_1_n_n none T (transpose S64x4096 [1, 0] T transposes_S4096x64_S64x4096_1_0))
      (broadcastInDim S4096x4096 ![] bcast_S_S4096x4096 (constant S_ .f32 0x3F800000#32)))

/-- The diagonal replaced by minus infinity. -/
def offDiag (x : FVec Ideal S4096x4096 .f32) : FVec Ideal S4096x4096 .f32 :=
  select (cmpi .eq (addi (iotaInDim S4096x4096 32 0) (broadcastInDim S4096x4096 ![] bcast_S_S4096x4096 (constantI S_ 32 0#32))) (iotaInDim S4096x4096 32 1))
    (broadcastInDim S4096x4096 ![] bcast_S_S4096x4096 (id (constant S_ .f32 0xFF800000#32))) x

/-- The positions of each row's eight largest entries. -/
def topIdx (x : FVec Ideal S4096x4096 .f32) : IVec S4096x8 32 :=
  (Host.topK S4096x8 1 (FloatOps.cmpfTotal .gt) x sliceFits_S4096x4096_S4096x8).2

/-- The pairs of row number and chosen position, as the mask's index table. -/
def pairsOf (idx : IVec S4096x8 32) : IVec S4096x8x2 32 :=
  concatenate S4096x8x2 2 [⟨S4096x8x1, (broadcastInDim S4096x8x1 ![0, 1] bcast_S4096x8_S4096x8x1_0_1 (broadcastInDim S4096x8 ![0, 1] bcast_S4096x1_S4096x8_0_1
      (select (cmpi .slt (broadcastInDim S4096x1 ![0] bcast_S4096_S4096x1_0 (iotaInDim S4096 32 0)) (broadcastInDim S4096x1 ![] bcast_S_S4096x1 (constantI S_ 32 0#32)))
        (addi (broadcastInDim S4096x1 ![0] bcast_S4096_S4096x1_0 (iotaInDim S4096 32 0)) (broadcastInDim S4096x1 ![] bcast_S_S4096x1 (constantI S_ 32 4096#32)))
        (broadcastInDim S4096x1 ![0] bcast_S4096_S4096x1_0 (iotaInDim S4096 32 0)))) : IVec S4096x8x1 32)⟩,
    ⟨S4096x8x1, (broadcastInDim S4096x8x1 ![0, 1] bcast_S4096x8_S4096x8x1_0_1
      (select (cmpi .slt idx (broadcastInDim S4096x8 ![] bcast_S_S4096x8 (constantI S_ 32 0#32)))
        (addi idx (broadcastInDim S4096x8 ![] bcast_S_S4096x8 (constantI S_ 32 4096#32))) idx) : IVec S4096x8x1 32)⟩]
    concatenates_S4096x8x1_S4096x8x1_S4096x8x2_d2

/-- The mask of the chosen pairs. -/
def maskOf (pairs : IVec S4096x8x2 32) : IVec S4096x4096 1 :=
  Host.scatter scatter_S4096x4096_S4096x8x2_S4096x8_n_01_01_2 (fun _ b => b) (broadcastInDim S4096x4096 ![] bcast_S_S4096x4096 (constantI S_ 1 0#1)) pairs
    (broadcastInDim S4096x8 ![] bcast_S_S4096x8 (constantI S_ 1 1#1))

/-- Each row's maximum, as a column. -/
def maxCol (l : FVec Ideal S4096x4096 .f32) : FVec Ideal S4096x1 .f32 :=
  broadcastInDim S4096x1 ![0] bcast_S4096_S4096x1_0 (Host.reduce FloatOps.maximumf l (constant S_ .f32 0xFF800000#32) reducesTo_S4096x4096_S4096_d1 h_S_)

/-- Each row's logarithm of the sum of exponentials, from the row maxima. -/
def lseCol (l : FVec Ideal S4096x4096 .f32) (mx : FVec Ideal S4096x1 .f32) : FVec Ideal S4096x1 .f32 :=
  addf (Host.log (broadcastInDim S4096x1 ![0] bcast_S4096_S4096x1_0 (Host.reduceAdd
    (Host.exp (subf l (broadcastInDim S4096x4096 ![0, 1] bcast_S4096x1_S4096x4096_0_1 mx)))
    (constant S_ .f32 0x00000000#32) reducesTo_S4096x4096_S4096_d1 h_S_))) mx

/-- Each row's number of positives. -/
def countOf (mf : FVec Ideal S4096x4096 .f32) : FVec Ideal S4096 .f32 :=
  Host.reduceAdd mf (constant S_ .f32 0x00000000#32) reducesTo_S4096x4096_S4096_d1 h_S_

/-- Each row's loss. -/
def anchorLoss (l mf : FVec Ideal S4096x4096 .f32) (lse : FVec Ideal S4096x1 .f32) : FVec Ideal S4096 .f32 :=
  Host.divf (Host.negf (Host.reduceAdd (mulf (subf l (broadcastInDim S4096x4096 ![0, 1] bcast_S4096x1_S4096x4096_0_1 lse)) mf)
      (constant S_ .f32 0x00000000#32) reducesTo_S4096x4096_S4096_d1 h_S_))
    (maximumf (countOf mf) (broadcastInDim S4096 ![] bcast_S_S4096 (constant S_ .f32 0x3F800000#32)))

/-- Whether each row has a positive. -/
def validOf (mf : FVec Ideal S4096x4096 .f32) : FVec Ideal S4096 .f32 :=
  uitofp .f32 (cmpf .oge (countOf mf) (broadcastInDim S4096 ![] bcast_S_S4096 (constant S_ .f32 0x3F800000#32)))

/-- The mean of the rows' losses over the valid rows. -/
def meanLoss (a v : FVec Ideal S4096 .f32) : FVec Ideal S_ .f32 :=
  select (cmpf .ogt (Host.reduceAdd v (constant S_ .f32 0x00000000#32) reducesTo_S4096_S_d0 h_S_) (constant S_ .f32 0x00000000#32))
    (Host.divf (Host.reduceAdd (mulf a v) (constant S_ .f32 0x00000000#32) reducesTo_S4096_S_d0 h_S_)
      (maximumf (Host.reduceAdd v (constant S_ .f32 0x00000000#32) reducesTo_S4096_S_d0 h_S_) (constant S_ .f32 0x3F800000#32)))
    (id (constant S_ .f32 0x00000000#32))

/-- The whole reference. -/
def loss (X : FVec Ideal S4096x128 .f32) (Y : FVec Ideal S4096x64 .f32) : FVec Ideal S_ .f32 :=
  let l := offDiag (logitsOf (unitZ X))
  let mf : FVec Ideal S4096x4096 .f32 := uitofp .f32 (maskOf (pairsOf (topIdx (offDiag (simsOf (unitT Y))))))
  meanLoss (anchorLoss l mf (lseCol l (maxCol l))) (validOf mf)

/-- The reference's run leaves the stages' result. -/
theorem res_eq (m : (ℓ : Loc nD τ sig) → Buf (Elt Ideal) ℓ) (c : Dev nD) :
    Cert.ReferenceIdeal.Value.res_main_v75 m c = loss (m ((c.tc : Thread nD τ).loc main_arg0)) (m ((c.tc : Thread nD τ).loc main_arg1)) := by
  rfl

end Cert.ReferenceIdeal.Stages

end
-- ==== Proof.ReferenceRows.lean ====
/- The reference's floating-point stages read at an index. -/
module

public import proofs.«01_k».proof.Proof.Reference
public import Idealize.ShloMosaic.Lib.IdealHost

@[expose] public section

set_option maxRecDepth 16384

noncomputable section

namespace Cert.ReferenceIdeal.Stages

open Idealize.ShloMosaic Idealize.ShloMosaic.TcCoe Idealize.SL.Sem
open Cert.ReferenceIdeal Cert.ReferenceIdeal.Gen

theorem unitZ_apply (X : FVec Ideal S4096x128 .f32) (i : Fin 4096) (k : Fin 128) :
    unitZ X (ix2 i k) = Cert.Rows.unit (Ideal.ofBits .f32 0x2B8CBCCC#32) (fun i k => X (ix2 i k)) i k := by
  unfold Cert.Rows.unit Cert.Rows.len
  pointwise [unitZ]

theorem unitT_apply (Y : FVec Ideal S4096x64 .f32) (i : Fin 4096) (k : Fin 64) :
    unitT Y (ix2 i k) = Cert.Rows.unit (Ideal.ofBits .f32 0x2B8CBCCC#32) (fun i k => Y (ix2 i k)) i k := by
  unfold Cert.Rows.unit Cert.Rows.len
  pointwise [unitT]

theorem logitsOf_apply (Z : FVec Ideal S4096x128 .f32) (i j : Fin 4096) :
    logitsOf Z (ix2 i j) = Ideal.div (∑ k : Fin 128, Z (ix2 i k) * Z (ix2 j k)) (Ideal.div 1 (Ideal.ofBits .f32 0x41200000#32)) := by
  pointwise [logitsOf]

theorem simsOf_apply (T : FVec Ideal S4096x64 .f32) (i j : Fin 4096) :
    simsOf T (ix2 i j) = Ideal.ofBits .f32 0x3F000000#32 * ((∑ k : Fin 64, T (ix2 i k) * T (ix2 j k)) + 1) := by
  pointwise [simsOf]

theorem maxCol_apply (l : FVec Ideal S4096x4096 .f32) (i : Fin 4096) :
    maxCol l (ix2 i 0) = Finset.univ.fold max (Ideal.ofBits .f32 0xFF800000#32) (fun j => l (ix2 i j)) := by
  pointwise [maxCol]

theorem lseCol_apply (l : FVec Ideal S4096x4096 .f32) (mx : FVec Ideal S4096x1 .f32) (i : Fin 4096) :
    lseCol l mx (ix2 i 0) = Ideal.log (∑ j, Ideal.exp (l (ix2 i j) - mx (ix2 i 0))) + mx (ix2 i 0) := by
  pointwise [lseCol]

theorem countOf_apply (mf : FVec Ideal S4096x4096 .f32) (i : Fin 4096) :
    countOf mf (ix1 i) = ∑ j, mf (ix2 i j) := by
  pointwise [countOf]

theorem anchorLoss_apply (l mf : FVec Ideal S4096x4096 .f32) (lse : FVec Ideal S4096x1 .f32) (i : Fin 4096) :
    anchorLoss l mf lse (ix1 i) = Ideal.div (-(∑ j, (l (ix2 i j) - lse (ix2 i 0)) * mf (ix2 i j))) (max (∑ j, mf (ix2 i j)) 1) := by
  pointwise [anchorLoss, countOf]

end Cert.ReferenceIdeal.Stages

end
-- ==== Proof.TopRows.lean ====
/- The host's top-k along the rows of a square array, read at an index: the entries in descending order and their positions. -/
module

public import proofs.«01_k».proof.Proof.Select
public import Idealize.ShloMosaic.Lib.Pointwise
public import Idealize.ShloMosaic.Lib.SortFacts
public import Idealize.ShloMosaic.Lib.IdealHost

@[expose] public section

set_option maxRecDepth 16384

noncomputable section

namespace Cert.Rows

open Idealize.ShloMosaic

/-- Whether entry `a` of row `i` sorts before entry `b`: it is strictly greater. -/
def before {n : ℕ} (x : FVec Ideal ⟨2, ![n, n]⟩ .f32) (i a b : Fin n) : Bool :=
  (FloatOps.cmpfTotal (F := Ideal) (φ := .f32) .gt (x (ix2 i a)) (x (ix2 i b)) : BitVec 1) == 1#1

theorem before_iff {n : ℕ} (x : FVec Ideal ⟨2, ![n, n]⟩ .f32) (i a b : Fin n) : before x i a b = true ↔ x (ix2 i b) < x (ix2 i a) := by
  unfold before
  rw [Ideal.cmpfTotal_def]
  simp only [CmpDirection.ordered, Ideal.cmp, beq_iff_eq]
  by_cases h : x (ix2 i b) < x (ix2 i a) <;> simp [h]

/-- The row's entries in descending order, by position. -/
abbrev order {n : ℕ} (x : FVec Ideal ⟨2, ![n, n]⟩ .f32) (i : Fin n) : Fin n → Fin n := sortedFrom (before x i)

theorem order_ordered {n : ℕ} (x : FVec Ideal ⟨2, ![n, n]⟩ .f32) (i : Fin n) : Ordered (fun j => x (ix2 i j)) (order x i) :=
  ordered_sortedFrom _ _ (before_iff x i)

theorem along_row {n : ℕ} (i j k : Fin n) (h : 1 < (⟨2, ![n, n]⟩ : Shape).rank) :
    Shape.Idx.along (s := ⟨2, ![n, n]⟩) (ix2 i j) ⟨1, h⟩ k = ix2 i k := by
  funext d
  match d with
  | 0 => rfl
  | 1 => rfl

theorem slice_row {n K : ℕ} {α : Type} (hK : K ≤ n) (x : (⟨2, ![n, n]⟩ : Shape).Idx → α) (h) (i : Fin n) (k : Fin K) :
    extractStridedSlice (s := ⟨2, ![n, n]⟩) ⟨2, ![n, K]⟩ (fun _ => 0) x h (ix2 i k) = x (ix2 i ⟨k.val, by omega⟩) := by
  unfold extractStridedSlice
  refine congrArg x (funext fun d => ?_)
  match d with
  | 0 => exact Fin.ext (Nat.zero_add _)
  | 1 => exact Fin.ext (Nat.zero_add _)

theorem topK_value {n K : ℕ} (hK : K ≤ n) (x : FVec Ideal ⟨2, ![n, n]⟩ .f32) (h) (i : Fin n) (k : Fin K) :
    (Host.topK (s := ⟨2, ![n, n]⟩) ⟨2, ![n, K]⟩ 1 (FloatOps.cmpfTotal (F := Ideal) (φ := .f32) .gt) x h).1 (ix2 i k)
      = x (ix2 i (order x i ⟨k.val, by omega⟩)) := by
  unfold Host.topK
  dsimp only
  refine (slice_row hK _ h i k).trans ?_
  unfold Host.sort2
  rw [dif_pos Nat.one_lt_two]
  show x (Shape.Idx.along (s := ⟨2, ![n, n]⟩) (ix2 i ⟨k.val, by omega⟩) ⟨1, Nat.one_lt_two⟩ (sortedFrom (n := n) (fun a b => (FloatOps.cmpfTotal (F := Ideal) (φ := .f32) .gt (x (Shape.Idx.along (s := ⟨2, ![n, n]⟩) (ix2 i ⟨k.val, by omega⟩) ⟨1, Nat.one_lt_two⟩ a)) (x (Shape.Idx.along (s := ⟨2, ![n, n]⟩) (ix2 i ⟨k.val, by omega⟩) ⟨1, Nat.one_lt_two⟩ b)) : BitVec 1) == 1#1) ⟨k.val, by omega⟩)) = _
  simp only [along_row]
  rfl

theorem topK_index {n K : ℕ} (hK : K ≤ n) (x : FVec Ideal ⟨2, ![n, n]⟩ .f32) (h) (i : Fin n) (k : Fin K) :
    (Host.topK (s := ⟨2, ![n, n]⟩) ⟨2, ![n, K]⟩ 1 (FloatOps.cmpfTotal (F := Ideal) (φ := .f32) .gt) x h).2 (ix2 i k)
      = BitVec.ofNat 32 (order x i ⟨k.val, by omega⟩).val := by
  unfold Host.topK
  dsimp only
  refine (slice_row hK _ h i k).trans ?_
  unfold Host.sort2
  rw [dif_pos Nat.one_lt_two]
  show BitVec.ofNat 32 (Shape.Idx.along (s := ⟨2, ![n, n]⟩) (ix2 i ⟨k.val, by omega⟩) ⟨1, Nat.one_lt_two⟩ (sortedFrom (n := n) (fun a b => (FloatOps.cmpfTotal (F := Ideal) (φ := .f32) .gt (x (Shape.Idx.along (s := ⟨2, ![n, n]⟩) (ix2 i ⟨k.val, by omega⟩) ⟨1, Nat.one_lt_two⟩ a)) (x (Shape.Idx.along (s := ⟨2, ![n, n]⟩) (ix2 i ⟨k.val, by omega⟩) ⟨1, Nat.one_lt_two⟩ b)) : BitVec 1) == 1#1)  ⟨k.val, by omega⟩) ⟨1, Nat.one_lt_two⟩).val = _
  simp only [along_row]
  rfl

end Cert.Rows

end
-- ==== Proof.ReferenceMasks.lean ====
/- The reference's diagonal, its eight nearest positions, and the mask of the chosen pairs, read at an index. -/
module

public import proofs.«01_k».proof.Proof.ReferenceRows
public import proofs.«01_k».proof.Proof.TopRows
public import Idealize.ShloMosaic.Lib.Routing.OpsPair
public import Idealize.ShloMosaic.Lib.Routing.OpsSet

@[expose] public section

set_option maxRecDepth 16384

noncomputable section

namespace Cert.ReferenceIdeal.Stages

open Idealize.ShloMosaic Idealize.ShloMosaic.TcCoe Idealize.SL.Sem
open Cert.ReferenceIdeal Cert.ReferenceIdeal.Gen

/-- Words of positions under 4096 agree only at equal positions. -/
theorem word_eq_iff (i j : Fin 4096) : BitVec.ofNat 32 i.val + 0#32 = BitVec.ofNat 32 j.val ↔ j = i := by
  rw [BitVec.add_zero, Fin.ext_iff]
  constructor
  · intro h
    have := congrArg BitVec.toNat h
    rw [BitVec.toNat_ofNat, BitVec.toNat_ofNat, Nat.mod_eq_of_lt (by omega), Nat.mod_eq_of_lt (by omega)] at this
    exact this.symm
  · intro h; rw [h]

theorem offDiag_apply (x : FVec Ideal S4096x4096 .f32) (i j : Fin 4096) :
    offDiag x (ix2 i j) = if j = i then Ideal.ofBits .f32 0xFF800000#32 else x (ix2 i j) := by
  have h : offDiag x (ix2 i j) = Scalar.select (IntOp.cmpi .eq (BitVec.ofNat 32 i.val + 0#32) (BitVec.ofNat 32 j.val)) (Ideal.ofBits .f32 0xFF800000#32) (x (ix2 i j)) := by
    rfl
  rw [h]
  unfold Scalar.select IntOp.cmpi
  have hw := word_eq_iff i j
  by_cases hij : j = i
  · rw [if_pos hij, if_pos]
    simp [hw.mpr hij]
  · rw [if_neg hij, if_neg]
    have : ¬ BitVec.ofNat 32 i.val + 0#32 = BitVec.ofNat 32 j.val := fun h => hij (hw.mp h)
    simp only [beq_eq_false_iff_ne.mpr this]
    decide

theorem topIdx_apply (x : FVec Ideal S4096x4096 .f32) (i : Fin 4096) (k : Fin 8) :
    topIdx x (ix2 i k) = BitVec.ofNat 32 (Cert.Rows.order x i ⟨k.val, by omega⟩).val :=
  Cert.Rows.topK_index (by decide) x _ i k

/-- A position under 4096, read as a signed word, is itself. -/
theorem word_toInt (i : Fin 4096) : (BitVec.ofNat 32 i.val).toInt = (i.val : ℤ) := by
  rw [BitVec.toInt_eq_toNat_of_lt (by rw [BitVec.toNat_ofNat, Nat.mod_eq_of_lt (by omega)]; omega), BitVec.toNat_ofNat, Nat.mod_eq_of_lt (by omega)]

/-- A position under 4096 is not wrapped. -/
theorem word_wrap (i : Fin 4096) (a : BitVec 32) :
    Scalar.select (IntOp.cmpi .slt (BitVec.ofNat 32 i.val) 0#32) a (BitVec.ofNat 32 i.val) = BitVec.ofNat 32 i.val :=
  Routing.wrap_of_lt _ _ (by rw [BitVec.toNat_ofNat, Nat.mod_eq_of_lt (by omega)]; omega)

/-- A pair's first word is its row. -/
theorem pairsOf_row (idx : IVec S4096x8 32) (i : Fin 4096) (k : Fin 8) : pairsOf idx (ix3 i k 0) = BitVec.ofNat 32 i.val := by
  pointwise [pairsOf]
  exact word_wrap i _

/-- A pair's second word is the chosen position. -/
theorem pairsOf_col (x : FVec Ideal S4096x4096 .f32) (i : Fin 4096) (k : Fin 8) :
    pairsOf (topIdx x) (ix3 i k 1) = BitVec.ofNat 32 (Cert.Rows.order x i ⟨k.val, by omega⟩).val := by
  have h : pairsOf (topIdx x) (ix3 i k 1) = Scalar.select (IntOp.cmpi .slt (topIdx x (ix2 i k)) 0#32) (IntOp.addi (topIdx x (ix2 i k)) 4096#32) (topIdx x (ix2 i k)) := by
    generalize topIdx x = idx
    pointwise [pairsOf]
  rw [h, topIdx_apply, word_wrap]

/-- Where the pair `(a, b)` lands. -/
theorem lands_iff (x : FVec Ideal S4096x4096 .f32) (a : Fin 4096) (b : Fin 8) (i j : Fin 4096) :
    scatter_S4096x4096_S4096x8x2_S4096x8_n_01_01_2.resultIdx? (ix2 a b) (pairsOf (topIdx x)) = some (ix2 i j)
      ↔ a = i ∧ Cert.Rows.order x a ⟨b.val, by omega⟩ = j := by
  have h := Routing.scatter_lands2 scatter_S4096x4096_S4096x8x2_S4096x8_n_01_01_2 rfl rfl rfl (pairsOf (topIdx x)) a b i j
  rw [← ix2_eq_valueIdx, ← ix2_eq_valueIdx, ← ix3_eq_valueIdx, ← ix3_eq_valueIdx, pairsOf_row, pairsOf_col, word_toInt, word_toInt] at h
  rw [h, Fin.ext_iff, Fin.ext_iff]
  exact and_congr Nat.cast_inj Nat.cast_inj

/-- An index of the table is its two coordinates. -/
theorem idx_eta (k : S4096x8.Idx) : k = ix2 (k 0) (k 1) := by
  funext d
  match d with
  | 0 => rfl
  | 1 => rfl

/-- The mask marks the chosen pairs. -/
theorem maskOf_apply (x : FVec Ideal S4096x4096 .f32) (i j : Fin 4096) (p : Prop) [Decidable p]
    (hp : (∃ k : Fin 4096, k.val < 8 ∧ Cert.Rows.order x i k = j) ↔ p) :
    maskOf (pairsOf (topIdx x)) (ix2 i j) = if p then 1#1 else 0#1 := by
  unfold maskOf
  split
  · next h =>
    obtain ⟨k, hk, hj⟩ := hp.mpr h
    exact Routing.scatter_set_hit _ _ _ _ _ (1#1) (fun _ _ => rfl) (ix2 i ⟨k.val, hk⟩) ((lands_iff x i ⟨k.val, hk⟩ i j).mpr ⟨rfl, hj⟩)
  · next h =>
    refine (Routing.scatter_set_miss _ _ _ _ _ fun k hk => h (hp.mp ?_)).trans rfl
    rw [idx_eta k] at hk
    obtain ⟨ha, hb⟩ := (lands_iff x (k 0) (k 1) i j).mp hk
    exact ⟨⟨(k 1).val, Nat.lt_trans (k 1).isLt (by decide)⟩, (k 1).isLt, ha ▸ hb⟩

end Cert.ReferenceIdeal.Stages

end
-- ==== Proof.ReferenceLoss.lean ====
/- The reference's loss: its rows' losses and their mean. -/
module

public import proofs.«01_k».proof.Proof.ReferenceRows
public import proofs.«01_k».proof.Proof.Normalize

@[expose] public section

set_option maxRecDepth 16384

noncomputable section

namespace Cert.ReferenceIdeal.Stages

open Idealize.ShloMosaic Idealize.ShloMosaic.TcCoe Idealize.SL.Sem
open Cert.ReferenceIdeal Cert.ReferenceIdeal.Gen

/-- The row maxima start from minus infinity. -/
theorem ofBits_negInf : Ideal.ofBits .f32 0xFF800000#32 = (⊥ : EReal) := by
  simp [Ideal.ofBits, Ideal.ieee, -EReal.coe_mul]

/-- A row's loss is a function of its masked logits and its mask. -/
theorem anchorLoss_row (l mf : FVec Ideal S4096x4096 .f32) (i : Fin 4096) :
    anchorLoss l mf (lseCol l (maxCol l)) (ix1 i) = Cert.Rows.refRow (fun j => l (ix2 i j)) (fun j => mf (ix2 i j)) := by
  rw [anchorLoss_apply, lseCol_apply, maxCol_apply, ofBits_negInf]
  rfl

/-- The bit one is converted to one. -/
theorem uitofp_one : (FloatOps.uitofp .f32 (1#1 : BitVec 1) : Ideal .f32) = (1 : EReal) := by
  show (((1#1 : BitVec 1).toNat : ℝ) : EReal) = 1
  norm_num

/-- The bit zero is converted to zero. -/
theorem uitofp_zero : (FloatOps.uitofp .f32 (0#1 : BitVec 1) : Ideal .f32) = (0 : EReal) := by
  show (((0#1 : BitVec 1).toNat : ℝ) : EReal) = 0
  norm_num

/-- A row with at least one positive is valid. -/
theorem validOf_apply (mf : FVec Ideal S4096x4096 .f32) (i : Fin 4096) (h : 1 ≤ ∑ j, mf (ix2 i j)) : validOf mf (ix1 i) = (1 : EReal) := by
  have h' : validOf mf (ix1 i) = FloatOps.uitofp (F := Ideal) .f32 (BitVec.ofBool (decide (1 ≤ countOf mf (ix1 i)))) := by
    pointwise [validOf]
  rw [h', countOf_apply, decide_eq_true h]
  exact uitofp_one

theorem meanLoss_apply (a v : FVec Ideal S4096 .f32) :
    meanLoss a v ix0 = if 0 < ∑ i, v (ix1 i) then Ideal.div (∑ i, a (ix1 i) * v (ix1 i)) (max (∑ i, v (ix1 i)) 1) else 0 := by
  pointwise [meanLoss]
  rw [show id (constant (F := Ideal) S_ FTy.f32 0x00000000#32) ix0 = (0 : EReal) from Ideal.ofBits_zero_f32]

/-- With every row valid, the loss is the sum of the rows' losses over their number. -/
theorem meanLoss_valid (a v : FVec Ideal S4096 .f32) (hv : ∀ i, v (ix1 i) = (1 : EReal)) :
    meanLoss a v ix0 = Ideal.div (∑ i, a (ix1 i)) ((4096 : ℝ) : EReal) := by
  have hs : ∑ i : Fin 4096, v (ix1 i) = ((4096 : ℝ) : EReal) := by
    have : ∑ i : Fin 4096, v (ix1 i) = ((∑ _i : Fin 4096, (1 : ℝ) : ℝ) : EReal) := by
      rw [Cert.Rows.coe_sum]; exact Finset.sum_congr rfl fun i _ => hv i
    rw [this, Finset.sum_const, Finset.card_univ, Fintype.card_fin]; norm_num
  rw [meanLoss_apply, hs, if_pos (by exact_mod_cast (by norm_num : (0 : ℝ) < 4096)), max_eq_left (by exact_mod_cast (by norm_num : (1 : ℝ) ≤ 4096))]
  refine congrArg (fun s => Ideal.div s _) (Finset.sum_congr rfl fun i _ => ?_)
  rw [hv i, mul_one]

end Cert.ReferenceIdeal.Stages

end
-- ==== Proof.Precondition.lean ====
/- The precondition read over the extended reals. -/
module

public import proofs.«01_k».proof.Pre_nearest_distinct
public import proofs.«01_k».proof.Proof.Gen.Pre_nearest_distinct
public import proofs.«01_k».proof.Proof.TopRows
public import proofs.«01_k».proof.Proof.Normalize

@[expose] public section

set_option maxRecDepth 16384

noncomputable section

namespace Cert.Pre_nearest_distinct.Rows

open Idealize.ShloMosaic
open Cert.Pre_nearest_distinct Cert.Pre_nearest_distinct.Gen

/-- The rows' lengths. -/
def lens (Y : FVec Ideal S4096x64 .f32) : FVec Ideal S4096x1 .f32 :=
  Host.sqrt (broadcastInDim S4096x1 ![0] bcast_S4096_S4096x1_0 (Host.reduceAdd (mulf Y Y) (constant S_ .f32 0x00000000#32) reducesTo_S4096x64_S4096_d1 h_S_))

/-- The normalized topology vectors. -/
def units (Y : FVec Ideal S4096x64 .f32) : FVec Ideal S4096x64 .f32 :=
  Host.divf Y (broadcastInDim S4096x64 ![0, 1] bcast_S4096x1_S4096x64_0_1 (maximumf (lens Y) (broadcastInDim S4096x1 ![] bcast_S_S4096x1 (constant S_ .f32 0x2B8CBCCC#32))))

/-- The similarities. -/
def sims (T : FVec Ideal S4096x64 .f32) : FVec Ideal S4096x4096 .f32 :=
  Host.dotGeneral dot_S4096x64_S64x4096_S4096x4096_1_0_0_1_n_n none T (transpose S64x4096 [1, 0] T transposes_S4096x64_S64x4096_1_0)

/-- Each row's ten largest similarities. -/
def tops (S : FVec Ideal S4096x4096 .f32) : FVec Ideal S4096x10 .f32 :=
  (Host.topK S4096x10 1 (FloatOps.cmpfTotal .gt) S sliceFits_S4096x4096_S4096x10).1

/-- The condition, from the lengths and the ten largest similarities. -/
def cond (n : FVec Ideal S4096x1 .f32) (v : FVec Ideal S4096x10 .f32) : IVec S4096x9 1 :=
  andi (broadcastInDim S4096x9 ![0, 1] bcast_S4096x1_S4096x9_0_1 (cmpf .oge n (broadcastInDim S4096x1 ![] bcast_S_S4096x1 (constant S_ .f32 0x2B8CBCCC#32))))
    (cmpf .ogt (extractStridedSlice S4096x9 ![0, 0] v slices_S4096x10_S4096x9_0_0) (extractStridedSlice S4096x9 ![0, 1] v slices_S4096x10_S4096x9_0_1))

theorem fn_eq (X : FVec Ideal S4096x128 .f32) (Y : FVec Ideal S4096x64 .f32) : fn (F := Ideal) X Y = cond (lens Y) (tops (sims (units Y))) := rfl

theorem lens_apply (Y : FVec Ideal S4096x64 .f32) (i : Fin 4096) : lens Y (ix2 i 0) = Cert.Rows.len (fun i k => Y (ix2 i k)) i := by
  unfold Cert.Rows.len
  pointwise [lens]

theorem units_apply (Y : FVec Ideal S4096x64 .f32) (i : Fin 4096) (k : Fin 64) :
    units Y (ix2 i k) = Cert.Rows.unit (Ideal.ofBits .f32 0x2B8CBCCC#32) (fun i k => Y (ix2 i k)) i k := by
  unfold Cert.Rows.unit Cert.Rows.len
  pointwise [units, lens]

theorem sims_apply (T : FVec Ideal S4096x64 .f32) (i j : Fin 4096) : sims T (ix2 i j) = ∑ k : Fin 64, T (ix2 i k) * T (ix2 j k) := by
  pointwise [sims]

theorem tops_apply (S : FVec Ideal S4096x4096 .f32) (i : Fin 4096) (k : Fin 10) :
    tops S (ix2 i k) = S (ix2 i (Cert.Rows.order S i ⟨k.val, by omega⟩)) :=
  Cert.Rows.topK_value (by decide) S _ i k

theorem cond_apply (n : FVec Ideal S4096x1 .f32) (v : FVec Ideal S4096x10 .f32) (h : cond n v = fun _ => 1#1) (i : Fin 4096) (k : Fin 9) :
    Ideal.ofBits .f32 0x2B8CBCCC#32 ≤ n (ix2 i 0) ∧ v (ix2 i ⟨k.val + 1, by omega⟩) < v (ix2 i ⟨k.val, by omega⟩) := by
  have h := congrFun h (ix2 i k)
  have h' : cond n v (ix2 i k) = IntOp.andi (BitVec.ofBool (decide (Ideal.ofBits .f32 0x2B8CBCCC#32 ≤ n (ix2 i 0))))
      (BitVec.ofBool (decide (v (ix2 i ⟨1 + k.val, by omega⟩) < v (ix2 i ⟨k.val, by omega⟩)))) := by
    pointwise [cond]
  rw [h'] at h
  have hk : (⟨1 + k.val, by omega⟩ : Fin 10) = ⟨k.val + 1, by omega⟩ := Fin.ext (Nat.add_comm _ _)
  rw [hk] at h
  by_cases h1 : Ideal.ofBits .f32 0x2B8CBCCC#32 ≤ n (ix2 i 0)
  · by_cases h2 : v (ix2 i ⟨k.val + 1, by omega⟩) < v (ix2 i ⟨k.val, by omega⟩)
    · exact ⟨h1, h2⟩
    · rw [decide_eq_true h1, decide_eq_false h2] at h
      exact absurd h (by decide)
  · rw [decide_eq_false h1] at h
    by_cases h2 : v (ix2 i ⟨k.val + 1, by omega⟩) < v (ix2 i ⟨k.val, by omega⟩)
    · rw [decide_eq_true h2] at h; exact absurd h (by decide)
    · rw [decide_eq_false h2] at h; exact absurd h (by decide)

/-- Where the condition holds, every topology vector is at least as long as the guard, and each row's ten largest similarities strictly decrease. -/
theorem decode (X : FVec Ideal S4096x128 .f32) (Y : FVec Ideal S4096x64 .f32) (h : fn (F := Ideal) X Y = fun _ => 1#1) (i : Fin 4096) :
    Ideal.ofBits .f32 0x2B8CBCCC#32 ≤ Cert.Rows.len (fun i k => Y (ix2 i k)) i
      ∧ ∀ k l : Fin 4096, l.val = k.val + 1 → l.val ≤ 9 →
        sims (units Y) (ix2 i (Cert.Rows.order (sims (units Y)) i l)) < sims (units Y) (ix2 i (Cert.Rows.order (sims (units Y)) i k)) := by
  rw [fn_eq] at h
  refine ⟨lens_apply Y i ▸ (cond_apply _ _ h i 0).1, fun k l hl h9 => ?_⟩
  have := (cond_apply _ _ h i ⟨k.val, by omega⟩).2
  rw [tops_apply, tops_apply] at this
  have e : l = ⟨k.val + 1, by omega⟩ := Fin.ext hl
  rw [e]
  exact this

end Cert.Pre_nearest_distinct.Rows

end
-- ==== Proof.Nearest.lean ====
/- The kernel's threshold and the reference's eight positions choose the same positives. -/
module

public import proofs.«01_k».proof.Proof.Select
public import proofs.«01_k».proof.Proof.Normalize

@[expose] public section

noncomputable section

namespace Cert.Rows

open Idealize.ShloMosaic

variable {n d : ℕ}

/-- A row whose largest entry stands at `i`, and whose two largest entries differ, has `i` first in descending order. -/
theorem first_self {T : Fin n → EReal} {σ : Fin n → Fin n} (h : Ordered T σ) (hn : 1 < n)
    (hs : T (σ ⟨1, hn⟩) < T (σ ⟨0, by omega⟩)) (i : Fin n) (hi : ∀ j, T j ≤ T i) : σ ⟨0, by omega⟩ = i := by
  obtain ⟨l, rfl⟩ := h.surj i
  by_cases hl : l.val = 0
  · exact congrArg σ (Fin.ext hl.symm)
  · have h1 : T (σ l) ≤ T (σ ⟨1, hn⟩) := h.desc _ _ (by rw [Fin.le_def]; show 1 ≤ l.val; omega)
    exact absurd (h1.trans_lt hs) (not_lt.mpr (hi _))

/-- The inner products of a normalized array's rows are real numbers. -/
theorem dot_unit (e : ℝ) (he : 0 < e) (Y : Fin n → Fin d → EReal) (i j : Fin n) :
    ∑ k, unit (e : EReal) Y i k * unit (e : EReal) Y j k
      = ((∑ k, (unit (e : EReal) Y i k).toReal * (unit (e : EReal) Y j k).toReal : ℝ) : EReal) := by
  rw [← coe_dot]
  exact Finset.sum_congr rfl fun k _ => by rw [← unit_real e he Y i k, ← unit_real e he Y j k]

/-- With every vector at least as long as the guard, a row that is not all zero is its own nearest, with similarity one, and no similarity is outside `[-1, 1]`. -/
theorem dot_unit_self (e : ℝ) (he : 0 < e) (Y : Fin n → Fin d → EReal) (hlen : ∀ i, (e : EReal) ≤ len Y i) (i : Fin n)
    (hz : ¬ ∀ k, unit (e : EReal) Y i k = 0) (j : Fin n) :
    (((-1 : ℝ) : EReal) ≤ ∑ k, unit (e : EReal) Y i k * unit (e : EReal) Y j k)
      ∧ ∑ k, unit (e : EReal) Y i k * unit (e : EReal) Y j k ≤ ∑ k, unit (e : EReal) Y i k * unit (e : EReal) Y i k := by
  have hle : ∀ j, ∑ k, (unit (e : EReal) Y j k).toReal * (unit (e : EReal) Y j k).toReal ≤ 1 := fun j => by
    rcases unit_sq e he Y j (hlen j) with h | h
    · simp [h]
    · exact h.le
  have h1 := (unit_sq e he Y i (hlen i)).resolve_left hz
  have hb := dot_bounds _ _ (hle i) (hle j)
  rw [dot_unit e he, dot_unit e he, h1]
  exact ⟨EReal.coe_le_coe_iff.mpr hb.1, EReal.coe_le_coe_iff.mpr hb.2⟩

/-- The positives: one set of eight, off the diagonal, which the peeled threshold separates together with the diagonal, and which the reference's first eight positions enumerate. -/
theorem positives (hn : 9 < n) (T : Fin n → ℝ) (i : Fin n) (hmax : ∀ j, T j ≤ T i) (hmin : ∀ j, -1 ≤ T j) {σ τ : Fin n → Fin n}
    (h : Ordered (fun j => (T j : EReal)) σ) (hs : ∀ k l : Fin n, l.val = k.val + 1 → l.val ≤ 9 → (T (σ l) : EReal) < T (σ k))
    (R : Fin n → EReal) (hR : ∀ j, R j = if j = i then ⊥ else (((1 / 2) * (T j + 1) : ℝ) : EReal)) (hτ : Ordered R τ)
    (b neg : EReal) (hb : b = ⊥) (hneg : neg ≤ ((-1 : ℝ) : EReal)) :
    ∃ B : Finset (Fin n), i ∉ B ∧ B.card = 8 ∧ (∀ j, peel (fun j => (T j : EReal)) b neg 8 ≤ (T j : EReal) ↔ j = i ∨ j ∈ B)
      ∧ ∀ j, (∃ k : Fin n, k.val < 8 ∧ τ k = j) ↔ j ∈ B := by
  have hp := peel_eq h 9 hs b neg (fun j => hb ▸ bot_le) (fun j => hneg.trans (EReal.coe_le_coe_iff.mpr (hmin j))) 8 (by omega) (by omega)
  have h0 : σ ⟨0, by omega⟩ = i := first_self h (by omega) (hs ⟨0, by omega⟩ ⟨1, by omega⟩ rfl (Nat.le_of_ble_eq_true rfl)) i fun j => EReal.coe_le_coe_iff.mpr (hmax j)
  have hc := card_ge h 9 hn hs 8 (by omega) i h0
  have hii : (T (σ ⟨8, by omega⟩) : EReal) ≤ T i := EReal.coe_le_coe_iff.mpr (hmax _)
  classical
  refine ⟨Finset.univ.filter fun j => j ≠ i ∧ (T (σ ⟨8, by omega⟩) : EReal) ≤ T j, by simp, by convert hc, fun j => ?_, fun j => ?_⟩
  · rw [hp, Finset.mem_filter]
    by_cases hj : j = i
    · subst hj; exact ⟨fun _ => .inl rfl, fun _ => hii⟩
    · exact ⟨fun hle => .inr ⟨Finset.mem_univ _, hj, hle⟩, fun hd => (hd.resolve_left hj).2.2⟩
  · have hf := first_iff hτ (Finset.univ.filter fun j => j ≠ i ∧ (T (σ ⟨8, by omega⟩) : EReal) ≤ T j) (fun c hcB a ha => ?_) j
    · rw [show (Finset.univ.filter fun j => j ≠ i ∧ (T (σ ⟨8, by omega⟩) : EReal) ≤ T j).card = 8 by convert hc] at hf
      exact hf
    · have hcB' := (Finset.mem_filter.mp hcB).2
      rw [hR a, hR c, if_neg hcB'.1]
      by_cases hai : a = i
      · rw [if_pos hai]; exact EReal.bot_lt_coe _
      · rw [if_neg hai, EReal.coe_lt_coe_iff]
        have hlt : (T a : EReal) < T (σ ⟨8, by omega⟩) := not_le.mp fun hle => ha (Finset.mem_filter.mpr ⟨Finset.mem_univ _, hai, hle⟩)
        have := EReal.coe_lt_coe_iff.mp (hlt.trans_le hcB'.2)
        linarith

end Cert.Rows

end
-- ==== Proof.Consts.lean ====
/- The programs' literals as extended reals. -/
module

public import Idealize.ShloMosaic.Lib.IdealHost
public import Mathlib.Tactic.NormNum

@[expose] public section

noncomputable section

namespace Cert.Rows

open Idealize.ShloMosaic

/-- The guard under the lengths is a positive real number. -/
theorem guard_real : ∃ e : ℝ, 0 < e ∧ Ideal.ofBits .f32 0x2B8CBCCC#32 = (e : EReal) := by
  refine ⟨_, ?_, by simp [Ideal.ofBits, Ideal.ieee, -EReal.coe_mul]; rfl⟩
  norm_num

theorem ofBits_ten : Ideal.ofBits .f32 0x41200000#32 = ((10 : ℝ) : EReal) := by
  simp [Ideal.ofBits, Ideal.ieee, -EReal.coe_mul]; norm_num

theorem ofBits_eight : Ideal.ofBits .f32 0x41000000#32 = ((8 : ℝ) : EReal) := by
  simp [Ideal.ofBits, Ideal.ieee, -EReal.coe_mul]; norm_num

theorem ofBits_4096 : Ideal.ofBits .f32 0x45800000#32 = ((4096 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_bot16 : Ideal.ofBits .bf16 0xFF80#16 = (⊥ : EReal) := by
  simp [Ideal.ofBits, Ideal.ieee, -EReal.coe_mul]

/-- The mark of the peeled entries is below every similarity. -/
theorem mark_le : Ideal.ofBits .bf16 0xFF62#16 ≤ ((-1 : ℝ) : EReal) := by
  simp [Ideal.ofBits, Ideal.ieee, -EReal.coe_mul, -EReal.coe_neg]
  norm_num

end Cert.Rows

end
-- ==== Proof.Equal.lean ====
/- Where the precondition holds, the idealized kernel's loss and the reference's are the same. -/
module

public import proofs.«01_k».proof.Proof.KernelLoss
public import proofs.«01_k».proof.Proof.ReferenceMasks
public import proofs.«01_k».proof.Proof.ReferenceLoss
public import proofs.«01_k».proof.Proof.Precondition
public import proofs.«01_k».proof.Proof.Nearest
public import proofs.«01_k».proof.Proof.Consts

@[expose] public section

set_option maxRecDepth 16384

noncomputable section

namespace Cert.Equal

open Idealize.ShloMosaic Cert.Rows

/-- The projections' array and the topology vectors' array. -/
abbrev ArrX := FVec Ideal Cert.ReferenceIdeal.S4096x128 .f32
abbrev ArrY := FVec Ideal Cert.ReferenceIdeal.S4096x64 .f32

/-- The reference's masked logits. -/
abbrev logits (X : ArrX) : FVec Ideal Cert.ReferenceIdeal.S4096x4096 .f32 :=
  Cert.ReferenceIdeal.Stages.offDiag (Cert.ReferenceIdeal.Stages.logitsOf (Cert.ReferenceIdeal.Stages.unitZ X))

/-- The reference's similarities, the diagonal masked. -/
abbrev ranks (Y : ArrY) : FVec Ideal Cert.ReferenceIdeal.S4096x4096 .f32 :=
  Cert.ReferenceIdeal.Stages.offDiag (Cert.ReferenceIdeal.Stages.simsOf (Cert.ReferenceIdeal.Stages.unitT Y))

/-- The reference's mask, as numbers. -/
abbrev mask (Y : ArrY) : FVec Ideal Cert.ReferenceIdeal.S4096x4096 .f32 :=
  uitofp .f32 (Cert.ReferenceIdeal.Stages.maskOf (Cert.ReferenceIdeal.Stages.pairsOf (Cert.ReferenceIdeal.Stages.topIdx (ranks Y))))

/-- The logit of two rows, as a real number. -/
def logit (e : ℝ) (x : Fin 4096 → Fin 128 → EReal) (i j : Fin 4096) : ℝ := 10 * ∑ k, (unit (e : EReal) x i k).toReal * (unit (e : EReal) x j k).toReal

/-- The similarity of two rows, as a real number. -/
def sim (e : ℝ) (y : Fin 4096 → Fin 64 → EReal) (i j : Fin 4096) : ℝ := ∑ k, (unit (e : EReal) y i k).toReal * (unit (e : EReal) y j k).toReal

theorem kernel_logit (e : ℝ) (he : 0 < e) (x : Fin 4096 → Fin 128 → EReal) (i j : Fin 4096) :
    ∑ k, unit (e : EReal) x i k * (unit (e : EReal) x j k * ((10 : ℝ) : EReal)) = (logit e x i j : EReal) := by
  unfold logit
  rw [Finset.mul_sum, coe_sum]
  refine Finset.sum_congr rfl fun k _ => ?_
  rw [unit_real e he x i k, unit_real e he x j k, ← EReal.coe_mul, ← EReal.coe_mul, EReal.toReal_coe, EReal.toReal_coe]
  congr 1
  ring

theorem kernel_diag (e : ℝ) (he : 0 < e) (x : Fin 4096 → Fin 128 → EReal) (i : Fin 4096) :
    ((10 : ℝ) : EReal) * ∑ k, unit (e : EReal) x i k * unit (e : EReal) x i k = (logit e x i i : EReal) := by
  rw [dot_unit e he, ← EReal.coe_mul]
  rfl

theorem reference_logit (e : ℝ) (he : 0 < e) (x : Fin 4096 → Fin 128 → EReal) (i j : Fin 4096) :
    Ideal.div (∑ k, unit (e : EReal) x i k * unit (e : EReal) x j k) (Ideal.div 1 ((10 : ℝ) : EReal)) = (logit e x i j : EReal) := by
  rw [Ideal.div_coe (by norm_num) 1, one_mul, Ideal.div_coe (by norm_num), dot_unit e he, ← EReal.coe_mul]
  unfold logit
  congr 1
  ring

theorem logits_apply (e : ℝ) (he : 0 < e) (hE : Ideal.ofBits .f32 0x2B8CBCCC#32 = (e : EReal)) (X : ArrX) (i j : Fin 4096) :
    logits X (ix2 i j) = if j = i then ⊥ else (logit e (fun i k => X (ix2 i k)) i j : EReal) := by
  rw [logits, Cert.ReferenceIdeal.Stages.offDiag_apply, Cert.ReferenceIdeal.Stages.ofBits_negInf, Cert.ReferenceIdeal.Stages.logitsOf_apply, ofBits_ten]
  simp only [Cert.ReferenceIdeal.Stages.unitZ_apply, hE]
  rw [reference_logit e he]

theorem ranks_apply (e : ℝ) (he : 0 < e) (hE : Ideal.ofBits .f32 0x2B8CBCCC#32 = (e : EReal)) (Y : ArrY) (i j : Fin 4096) :
    ranks Y (ix2 i j) = if j = i then ⊥ else (((1 / 2) * (sim e (fun i k => Y (ix2 i k)) i j + 1) : ℝ) : EReal) := by
  rw [ranks, Cert.ReferenceIdeal.Stages.offDiag_apply, Cert.ReferenceIdeal.Stages.ofBits_negInf, Cert.ReferenceIdeal.Stages.simsOf_apply, ofBits_half]
  simp only [Cert.ReferenceIdeal.Stages.unitT_apply, hE]
  rw [dot_unit e he]
  rw [EReal.coe_mul, EReal.coe_add, EReal.coe_one]
  rfl

theorem sims_apply (e : ℝ) (he : 0 < e) (hE : Ideal.ofBits .f32 0x2B8CBCCC#32 = (e : EReal)) (Y : ArrY) (i j : Fin 4096) :
    Cert.Pre_nearest_distinct.Rows.sims (Cert.Pre_nearest_distinct.Rows.units Y) (ix2 i j) = (sim e (fun i k => Y (ix2 i k)) i j : EReal) := by
  rw [Cert.Pre_nearest_distinct.Rows.sims_apply]
  simp only [Cert.Pre_nearest_distinct.Rows.units_apply, hE]
  exact dot_unit e he _ i j

theorem mask_apply (Y : ArrY) (i j : Fin 4096) (p : Prop) [Decidable p] (hp : (∃ k : Fin 4096, k.val < 8 ∧ order (ranks Y) i k = j) ↔ p) :
    mask Y (ix2 i j) = if p then (1 : EReal) else 0 := by
  show FloatOps.uitofp (F := Ideal) .f32 (Cert.ReferenceIdeal.Stages.maskOf _ (ix2 i j)) = _
  rw [Cert.ReferenceIdeal.Stages.maskOf_apply (ranks Y) i j p hp]
  split
  · exact Cert.ReferenceIdeal.Stages.uitofp_one
  · exact Cert.ReferenceIdeal.Stages.uitofp_zero

/-- Each row's loss is one real number on both sides, and each row has a positive. -/
theorem row_eq (X : ArrX) (Y : ArrY) (h : Cert.Pre_nearest_distinct.fn (F := Ideal) X Y = fun _ => 1#1) (i : Fin 4096) :
    ∃ r : ℝ, Cert.KernelIdeal.RowTiles.kRowC X Y i = (r : EReal) ∧ (1 ≤ ∑ j, mask Y (ix2 i j))
      ∧ refRow (fun j => logits X (ix2 i j)) (fun j => mask Y (ix2 i j)) = (r : EReal) := by
  obtain ⟨e, he, hE⟩ := guard_real
  have hlen : ∀ i, (e : EReal) ≤ len (fun i k => Y (ix2 i k)) i := fun i => hE ▸ (Cert.Pre_nearest_distinct.Rows.decode X Y h i).1
  have hs := (Cert.Pre_nearest_distinct.Rows.decode X Y h i).2
  have ho := order_ordered (Cert.Pre_nearest_distinct.Rows.sims (Cert.Pre_nearest_distinct.Rows.units Y)) i
  have hS : (fun j => Cert.Pre_nearest_distinct.Rows.sims (Cert.Pre_nearest_distinct.Rows.units Y) (ix2 i j)) = fun j => (sim e (fun i k => Y (ix2 i k)) i j : EReal) :=
    funext fun j => sims_apply e he hE Y i j
  rw [hS] at ho
  simp only [sims_apply e he hE] at hs
  have hz : ¬ ∀ k, unit (e : EReal) (fun i k => Y (ix2 i k)) i k = 0 := fun hz => by
    have h0 : ∀ j, sim e (fun i k => Y (ix2 i k)) i j = 0 := fun j => by simp [sim, hz]
    have := hs 0 1 rfl (by decide)
    rw [h0, h0] at this
    exact lt_irrefl _ this
  have hb := fun j => dot_unit_self e he _ hlen i hz j
  simp only [dot_unit e he, EReal.coe_le_coe_iff] at hb
  obtain ⟨B, hi, hB, ht, hj⟩ := positives (by decide) (sim e (fun i k => Y (ix2 i k)) i) i (fun j => (hb j).2) (fun j => (hb j).1) ho hs
    (fun j => ranks Y (ix2 i j)) (ranks_apply e he hE Y i) (order_ordered (ranks Y) i) (Ideal.ofBits .bf16 0xFF80#16) (Ideal.ofBits .bf16 0xFF62#16) ofBits_bot16 mark_le
  have hm : ∀ j, mask Y (ix2 i j) = if j ∈ B then (1 : EReal) else 0 := fun j => mask_apply Y i j (j ∈ B) (hj j)
  refine ⟨rowLoss (logit e (fun i k => X (ix2 i k)) i) i B, ?_, ?_, refRow_eq _ i B hi hB _ _ (logits_apply e he hE X i) hm⟩
  · unfold Cert.KernelIdeal.RowTiles.kRowC Cert.KernelIdeal.RowTiles.kRow
    rw [hE, ofBits_ten, ofBits_eight]
    have hT : (fun j => ∑ k, unit (e : EReal) (fun i k => Y (ix2 i k)) i k * unit (e : EReal) (fun i k => Y (ix2 i k)) j k)
        = fun j => (sim e (fun i k => Y (ix2 i k)) i j : EReal) := funext fun j => dot_unit e he _ i j
    rw [hT]
    exact kernelRow_eq _ i B hi (Finset.card_pos.mp (by omega)) _ _ _ _ (kernel_logit e he _ i) (kernel_diag e he _ i) ht
  · obtain ⟨b, hbB⟩ : B.Nonempty := Finset.card_pos.mp (by omega)
    have h0 : ∀ j, 0 ≤ mask Y (ix2 i j) := fun j => by rw [hm j]; split <;> simp
    calc (1 : EReal) = mask Y (ix2 i b) := by rw [hm b, if_pos hbB]
      _ ≤ ∑ j, mask Y (ix2 i j) := Finset.single_le_sum (fun j _ => h0 j) (Finset.mem_univ b)

/-- A sum over all rows is the sum over the four tiles' rows. -/
theorem sum_tiles (f : Fin 4096 → ℝ) : ∑ i, f i = ∑ t : Fin 4, ∑ a : Fin 1024, f ⟨1024 * t.val + a.val, by omega⟩ := by
  rw [← Finset.sum_product', Finset.univ_product_univ]
  refine (Fintype.sum_equiv (finProdFinEquiv : Fin 4 × Fin 1024 ≃ Fin (4 * 1024)) _ f fun p => congrArg f (Fin.ext ?_)).symm
  show 1024 * p.1.val + p.2.val = p.2.val + 1024 * p.1.val
  omega

/-- The two losses are equal. -/
theorem loss_eq (X : ArrX) (Y : ArrY) (h : Cert.Pre_nearest_distinct.fn (F := Ideal) X Y = fun _ => 1#1) :
    0 + Cert.KernelIdeal.RowTiles.part X Y Cert.KernelIdeal.Gen.t1_0 + Cert.KernelIdeal.RowTiles.part X Y Cert.KernelIdeal.Gen.t1_1
        + Cert.KernelIdeal.RowTiles.part X Y Cert.KernelIdeal.Gen.t1_2 + Cert.KernelIdeal.RowTiles.part X Y Cert.KernelIdeal.Gen.t1_3
      = Cert.ReferenceIdeal.Stages.loss X Y ix0 := by
  choose r hk hv hr using row_eq X Y h
  have hp : ∀ t, Cert.KernelIdeal.RowTiles.part X Y t = ((∑ a : Fin 1024, r (Cert.KernelIdeal.RowTiles.tileRow t a)) * (1 / 4096) : ℝ) := fun t => by
    unfold Cert.KernelIdeal.RowTiles.part
    simp only [hk]
    rw [← coe_sum, ofBits_4096, Ideal.div_coe (by norm_num), ← EReal.coe_mul]
  have hl : Cert.ReferenceIdeal.Stages.loss X Y ix0 = (((∑ i, r i) * (1 / 4096) : ℝ) : EReal) := by
    show Cert.ReferenceIdeal.Stages.meanLoss (Cert.ReferenceIdeal.Stages.anchorLoss (logits X) (mask Y) (Cert.ReferenceIdeal.Stages.lseCol (logits X) (Cert.ReferenceIdeal.Stages.maxCol (logits X))))
      (Cert.ReferenceIdeal.Stages.validOf (mask Y)) ix0 = _
    rw [Cert.ReferenceIdeal.Stages.meanLoss_valid _ _ fun i => Cert.ReferenceIdeal.Stages.validOf_apply (mask Y) i (hv i)]
    simp only [Cert.ReferenceIdeal.Stages.anchorLoss_row, hr]
    rw [← coe_sum, Ideal.div_coe (by norm_num), ← EReal.coe_mul]
  rw [hl, hp, hp, hp, hp, sum_tiles, Fin.sum_univ_four, zero_add, ← EReal.coe_add, ← EReal.coe_add, ← EReal.coe_add, ← add_mul, ← add_mul, ← add_mul]
  rfl

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_nearest_distinct
public import proofs.«01_k».proof.Proof.KernelRun
public import proofs.«01_k».proof.Proof.Equal
public import Idealize.ShloMosaic.Lib.Quiescent
public import Idealize.ShloMosaic.Lib.StableHlo.RunHlo
public import Idealize.ShloMosaic.Adequacy
public import Idealize.ShloMosaic.Init

@[expose] public section

noncomputable section

namespace Cert.Proof

open Idealize.ShloMosaic Idealize.SL.Sem

/-- The idealized reference ends with every semaphore counter at zero and its arguments unchanged. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  θ_run_mono (Cert.ReferenceIdeal.Value.run m g) fun r h =>
    ⟨fun c => (h c).2, sem_eq_zero_of_no_sems (by decide) r.2⟩

/-- Where the ten largest similarities of every row are distinct and no topology vector is shorter than the guard, the idealized kernel and the
    idealized reference end with the same loss. -/
theorem same_loss : Cert.algebraic_KernelIdeal_ReferenceIdeal_pre_nearest_distinct (hKernelIdeal := Cert.KernelIdeal.Gen.facts)
    (hReferenceIdeal := Cert.ReferenceIdeal.Gen.facts) (hPre_nearest_distinct := Cert.Pre_nearest_distinct.Gen.facts) := by
  intro m g m' g' hpre hargs
  refine ⟨fun c => Cert.KernelIdeal.Gen.W3 m g c (Proc.devRef .tc Cert.KernelIdeal.main_v2), Cert.KernelIdeal.Gen.run_result m g,
    θ_run_mono (Cert.ReferenceIdeal.Value.run m' g') fun r h c => ⟨(h c).1.trans ?_, (h c).2⟩⟩
  rw [Cert.ReferenceIdeal.Stages.res_eq, (hargs c).1, (hargs c).2]
  funext j
  refine Eq.trans ?_ (Cert.KernelIdeal.RowTiles.result m g c j).symm
  refine Eq.trans ?_ (Cert.Equal.loss_eq _ _ (hpre c)).symm
  exact congrArg _ (funext fun d => d.elim0)

/-- The certificate's claim. -/
theorem claim : Cert.Claim := ⟨Cert.Kernel.Gen.facts, Cert.KernelIdeal.Gen.facts, Cert.ReferenceIdeal.Gen.facts, Cert.Pre_nearest_distinct.Gen.facts,
  fun m g _ => Cert.Kernel.Gen.frame m g, fun m g _ => Cert.KernelIdeal.Gen.frame m g, fun m g _ => Cert.KernelIdeal.Gen.frame m g,
  fun m g _ => frame_reference m g, fun m g _ => frame_reference m g, trivial, same_loss⟩

end Cert.Proof

end
